-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 4096, 2048]⟩ ⟨3, ![8, 4096, 2048]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x2048 : Shape := ⟨3, ![1, 4096, 2048]⟩
abbrev S4096x2048 : Shape := ⟨2, ![4096, 2048]⟩
abbrev S2x256x2048 : Shape := ⟨3, ![2, 256, 2048]⟩
abbrev S_ : Shape := ⟨0, ![]⟩
abbrev S14 : Shape := ⟨1, ![14]⟩
abbrev S2 : Shape := ⟨1, ![2]⟩
abbrev S1 : Shape := ⟨1, ![1]⟩
abbrev S1x256x2048 : Shape := ⟨3, ![1, 256, 2048]⟩
abbrev S256x2048 : Shape := ⟨2, ![256, 2048]⟩

abbrev nBuf : Space → Nat
  | .hbm => 2
  | .vmem => 3
  | .smem => 0
  | _ => 0

abbrev bufTy : (tb : Table) → Fin (tcTables nBuf tb) → BufTy
  | .hbm, ⟨0, _⟩ => ⟨S1x4096x2048, .f32⟩
  | .hbm, ⟨1, _⟩ => ⟨S4096x2048, .f32⟩
  | .local _ .vmem, ⟨0, _⟩ => ⟨S4096x2048, .f32⟩
  | .local _ .vmem, ⟨1, _⟩ => ⟨S2x256x2048, .f32⟩
  | .local _ .vmem, ⟨2, _⟩ => ⟨S2x256x2048, .f32⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  (ofTc nBuf bufTy 5 58 bufScoped semScoped dmaSemScoped tileCredit tileCredit_eq_zero tileCredit_pos).withBarriers [(0, 4)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0
abbrev barrier0 : Sem sig := 4

abbrev nD : Nat := 8
abbrev τ : Topo := Topo.v7x

variable {F : FTy → Type} [FloatOps F]

abbrev grid0 : Pipeline.Grid := .none

def k0_dev1 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_17 : BitVec 32 := 1#32
  let v28 : BitVec 32 := Scalar.muli v13 c1_i32_17
  let v29 : BitVec 32 := Scalar.addi c0_i32_18 v28
  v29.toNat
def k0_dev2 (d0 : Dev nD) : Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_20 : BitVec 32 := 1#32
  let v30 : BitVec 32 := Scalar.muli v24 c1_i32_20
  let v31 : BitVec 32 := Scalar.addi c0_i32_21 v30
  v31.toNat
def k0_off1 (d0 : Dev nD) (c0_i32_25 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v34 : BitVec 32 := Scalar.subi v2 c0_i32_25
  let c8_i32_26 : BitVec 32 := 8#32
  let c0_i32_27 : BitVec 32 := 0#32
  let v35 : BitVec 1 := Scalar.cmpi .eq c8_i32_26 c0_i32_27
  let c1_i32_28 : BitVec 32 := 1#32
  let v36 : BitVec 32 := Scalar.select v35 c1_i32_28 c8_i32_26
  let v37 : BitVec 32 := Scalar.remsi v34 v36
  let c0_i32_30 : BitVec 32 := 0#32
  let v39 : BitVec 1 := Scalar.cmpi .slt v37 c0_i32_30
  let c0_i32_31 : BitVec 32 := 0#32
  let v40 : BitVec 1 := Scalar.cmpi .slt v36 c0_i32_31
  let v41 : BitVec 1 := Scalar.xori v39 v40
  let c0_i32_29 : BitVec 32 := 0#32
  let v38 : BitVec 1 := Scalar.cmpi .ne v37 c0_i32_29
  let v42 : BitVec 1 := Scalar.andi v41 v38
  let v43 : BitVec 32 := Scalar.addi v37 v36
  let v44 : BitVec 32 := Scalar.select v42 v43 v37
  let c512_i32 : BitVec 32 := 512#32
  let v45 : BitVec 32 := Scalar.muli v44 c512_i32
  let c0_i32_47 : BitVec 32 := 0#32
  ![v45.toNat, 0]
def k0_dev3 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_43 : BitVec 32 := 1#32
  let v59 : BitVec 32 := Scalar.muli v24 c1_i32_43
  let v60 : BitVec 32 := Scalar.addi c0_i32_44 v59
  v60.toNat
def k0_off2 (d0 : Dev nD) (c0_i32_32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v46 : BitVec 32 := Scalar.addi v2 c0_i32_32
  let c8_i32_33 : BitVec 32 := 8#32
  let c0_i32_34 : BitVec 32 := 0#32
  let v47 : BitVec 1 := Scalar.cmpi .eq c8_i32_33 c0_i32_34
  let c1_i32_35 : BitVec 32 := 1#32
  let v48 : BitVec 32 := Scalar.select v47 c1_i32_35 c8_i32_33
  let v49 : BitVec 32 := Scalar.remsi v46 v48
  let c0_i32_37 : BitVec 32 := 0#32
  let v51 : BitVec 1 := Scalar.cmpi .slt v49 c0_i32_37
  let c0_i32_38 : BitVec 32 := 0#32
  let v52 : BitVec 1 := Scalar.cmpi .slt v48 c0_i32_38
  let v53 : BitVec 1 := Scalar.xori v51 v52
  let c0_i32_36 : BitVec 32 := 0#32
  let v50 : BitVec 1 := Scalar.cmpi .ne v49 c0_i32_36
  let v54 : BitVec 1 := Scalar.andi v53 v50
  let v55 : BitVec 32 := Scalar.addi v49 v48
  let v56 : BitVec 32 := Scalar.select v54 v55 v49
  let c512_i32_39 : BitVec 32 := 512#32
  let v57 : BitVec 32 := Scalar.muli v56 c512_i32_39
  let c256_i32 : BitVec 32 := 256#32
  let v58 : BitVec 32 := Scalar.addi v57 c256_i32
  let c0_i32_55 : BitVec 32 := 0#32
  ![v58.toNat, 0]
def k0_dev4 (d0 : Dev nD) : Nat :=
  let c0_i32_52 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_51 : BitVec 32 := 1#32
  let v68 : BitVec 32 := Scalar.muli v13 c1_i32_51
  let v69 : BitVec 32 := Scalar.addi c0_i32_52 v68
  v69.toNat
def k0_off3 (d0 : Dev nD) (c0_i32_71 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v89 : BitVec 32 := Scalar.subi v2 c0_i32_71
  let c1_i32_72 : BitVec 32 := 1#32
  let v90 : BitVec 32 := Scalar.subi v89 c1_i32_72
  let c8_i32_73 : BitVec 32 := 8#32
  let c0_i32_74 : BitVec 32 := 0#32
  let v91 : BitVec 1 := Scalar.cmpi .eq c8_i32_73 c0_i32_74
  let c1_i32_75 : BitVec 32 := 1#32
  let v92 : BitVec 32 := Scalar.select v91 c1_i32_75 c8_i32_73
  let v93 : BitVec 32 := Scalar.remsi v90 v92
  let c0_i32_77 : BitVec 32 := 0#32
  let v95 : BitVec 1 := Scalar.cmpi .slt v93 c0_i32_77
  let c0_i32_78 : BitVec 32 := 0#32
  let v96 : BitVec 1 := Scalar.cmpi .slt v92 c0_i32_78
  let v97 : BitVec 1 := Scalar.xori v95 v96
  let c0_i32_76 : BitVec 32 := 0#32
  let v94 : BitVec 1 := Scalar.cmpi .ne v93 c0_i32_76
  let v98 : BitVec 1 := Scalar.andi v97 v94
  let v99 : BitVec 32 := Scalar.addi v93 v92
  let v100 : BitVec 32 := Scalar.select v98 v99 v93
  let c512_i32_79 : BitVec 32 := 512#32
  let v101 : BitVec 32 := Scalar.muli v100 c512_i32_79
  let v102 : Index := Scalar.indexCast v101
  let c0 : Index := 0#32
  ![v102.toNat, 0]
def k0_off4 (d0 : Dev nD) (c0_i32_99 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v122 : BitVec 32 := Scalar.addi v2 c0_i32_99
  let c1_i32_100 : BitVec 32 := 1#32
  let v123 : BitVec 32 := Scalar.addi v122 c1_i32_100
  let c8_i32_101 : BitVec 32 := 8#32
  let c0_i32_102 : BitVec 32 := 0#32
  let v124 : BitVec 1 := Scalar.cmpi .eq c8_i32_101 c0_i32_102
  let c1_i32_103 : BitVec 32 := 1#32
  let v125 : BitVec 32 := Scalar.select v124 c1_i32_103 c8_i32_101
  let v126 : BitVec 32 := Scalar.remsi v123 v125
  let c0_i32_105 : BitVec 32 := 0#32
  let v128 : BitVec 1 := Scalar.cmpi .slt v126 c0_i32_105
  let c0_i32_106 : BitVec 32 := 0#32
  let v129 : BitVec 1 := Scalar.cmpi .slt v125 c0_i32_106
  let v130 : BitVec 1 := Scalar.xori v128 v129
  let c0_i32_104 : BitVec 32 := 0#32
  let v127 : BitVec 1 := Scalar.cmpi .ne v126 c0_i32_104
  let v131 : BitVec 1 := Scalar.andi v130 v127
  let v132 : BitVec 32 := Scalar.addi v126 v125
  let v133 : BitVec 32 := Scalar.select v131 v132 v126
  let c512_i32_107 : BitVec 32 := 512#32
  let v134 : BitVec 32 := Scalar.muli v133 c512_i32_107
  let c256_i32_108 : BitVec 32 := 256#32
  let v135 : BitVec 32 := Scalar.addi v134 c256_i32_108
  let v136 : Index := Scalar.indexCast v135
  let c0_109 : Index := 0#32
  ![v136.toNat, 0]
def k0_dev5 (d0 : Dev nD) : Nat :=
  let c0_i32_117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_116 : BitVec 32 := 1#32
  let v146 : BitVec 32 := Scalar.muli v13 c1_i32_116
  let v147 : BitVec 32 := Scalar.addi c0_i32_117 v146
  v147.toNat
def k0_dev6 (d0 : Dev nD) : Nat :=
  let c0_i32_121 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_120 : BitVec 32 := 1#32
  let v150 : BitVec 32 := Scalar.muli v24 c1_i32_120
  let v151 : BitVec 32 := Scalar.addi c0_i32_121 v150
  v151.toNat
def k0_dev7 (d0 : Dev nD) : Nat :=
  let c0_i32_143 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_142 : BitVec 32 := 1#32
  let v177 : BitVec 32 := Scalar.muli v24 c1_i32_142
  let v178 : BitVec 32 := Scalar.addi c0_i32_143 v177
  v178.toNat
def k0_dev8 (d0 : Dev nD) : Nat :=
  let c0_i32_151 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_150 : BitVec 32 := 1#32
  let v186 : BitVec 32 := Scalar.muli v13 c1_i32_150
  let v187 : BitVec 32 := Scalar.addi c0_i32_151 v186
  v187.toNat
def k0_dev9 (d0 : Dev nD) : Nat :=
  let c0_i32_216 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_215 : BitVec 32 := 1#32
  let v264 : BitVec 32 := Scalar.muli v13 c1_i32_215
  let v265 : BitVec 32 := Scalar.addi c0_i32_216 v264
  v265.toNat
def k0_dev10 (d0 : Dev nD) : Nat :=
  let c0_i32_220 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_219 : BitVec 32 := 1#32
  let v268 : BitVec 32 := Scalar.muli v24 c1_i32_219
  let v269 : BitVec 32 := Scalar.addi c0_i32_220 v268
  v269.toNat
def k0_dev11 (d0 : Dev nD) : Nat :=
  let c0_i32_248 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_247 : BitVec 32 := 1#32
  let v299 : BitVec 32 := Scalar.muli v24 c1_i32_247
  let v300 : BitVec 32 := Scalar.addi c0_i32_248 v299
  v300.toNat
def k0_dev12 (d0 : Dev nD) : Nat :=
  let c0_i32_256 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_255 : BitVec 32 := 1#32
  let v308 : BitVec 32 := Scalar.muli v13 c1_i32_255
  let v309 : BitVec 32 := Scalar.addi c0_i32_256 v308
  v309.toNat
def k0_dev13 (d0 : Dev nD) : Nat :=
  let c0_i32_322 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_321 : BitVec 32 := 1#32
  let v386 : BitVec 32 := Scalar.muli v13 c1_i32_321
  let v387 : BitVec 32 := Scalar.addi c0_i32_322 v386
  v387.toNat
def k0_dev14 (d0 : Dev nD) : Nat :=
  let c0_i32_326 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_325 : BitVec 32 := 1#32
  let v390 : BitVec 32 := Scalar.muli v24 c1_i32_325
  let v391 : BitVec 32 := Scalar.addi c0_i32_326 v390
  v391.toNat
def k0_dev15 (d0 : Dev nD) : Nat :=
  let c0_i32_353 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_352 : BitVec 32 := 1#32
  let v421 : BitVec 32 := Scalar.muli v24 c1_i32_352
  let v422 : BitVec 32 := Scalar.addi c0_i32_353 v421
  v422.toNat
def k0_dev16 (d0 : Dev nD) : Nat :=
  let c0_i32_361 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_360 : BitVec 32 := 1#32
  let v430 : BitVec 32 := Scalar.muli v13 c1_i32_360
  let v431 : BitVec 32 := Scalar.addi c0_i32_361 v430
  v431.toNat
def k0_dev17 (d0 : Dev nD) : Nat :=
  let c0_i32_427 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_426 : BitVec 32 := 1#32
  let v508 : BitVec 32 := Scalar.muli v13 c1_i32_426
  let v509 : BitVec 32 := Scalar.addi c0_i32_427 v508
  v509.toNat
def k0_dev18 (d0 : Dev nD) : Nat :=
  let c0_i32_431 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_430 : BitVec 32 := 1#32
  let v512 : BitVec 32 := Scalar.muli v24 c1_i32_430
  let v513 : BitVec 32 := Scalar.addi c0_i32_431 v512
  v513.toNat
def k0_dev19 (d0 : Dev nD) : Nat :=
  let c0_i32_458 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_457 : BitVec 32 := 1#32
  let v543 : BitVec 32 := Scalar.muli v24 c1_i32_457
  let v544 : BitVec 32 := Scalar.addi c0_i32_458 v543
  v544.toNat
def k0_dev20 (d0 : Dev nD) : Nat :=
  let c0_i32_466 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_465 : BitVec 32 := 1#32
  let v552 : BitVec 32 := Scalar.muli v13 c1_i32_465
  let v553 : BitVec 32 := Scalar.addi c0_i32_466 v552
  v553.toNat
def k0_dev21 (d0 : Dev nD) : Nat :=
  let c0_i32_532 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_531 : BitVec 32 := 1#32
  let v630 : BitVec 32 := Scalar.muli v13 c1_i32_531
  let v631 : BitVec 32 := Scalar.addi c0_i32_532 v630
  v631.toNat
def k0_dev22 (d0 : Dev nD) : Nat :=
  let c0_i32_536 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_535 : BitVec 32 := 1#32
  let v634 : BitVec 32 := Scalar.muli v24 c1_i32_535
  let v635 : BitVec 32 := Scalar.addi c0_i32_536 v634
  v635.toNat
def k0_dev23 (d0 : Dev nD) : Nat :=
  let c0_i32_563 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_562 : BitVec 32 := 1#32
  let v665 : BitVec 32 := Scalar.muli v24 c1_i32_562
  let v666 : BitVec 32 := Scalar.addi c0_i32_563 v665
  v666.toNat
def k0_dev24 (d0 : Dev nD) : Nat :=
  let c0_i32_571 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_570 : BitVec 32 := 1#32
  let v674 : BitVec 32 := Scalar.muli v13 c1_i32_570
  let v675 : BitVec 32 := Scalar.addi c0_i32_571 v674
  v675.toNat
def k0_dev25 (d0 : Dev nD) : Nat :=
  let c0_i32_660 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_659 : BitVec 32 := 1#32
  let v779 : BitVec 32 := Scalar.muli v24 c1_i32_659
  let v780 : BitVec 32 := Scalar.addi c0_i32_660 v779
  v780.toNat
def k0_dev26 (d0 : Dev nD) : Nat :=
  let c0_i32_668 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_667 : BitVec 32 := 1#32
  let v788 : BitVec 32 := Scalar.muli v13 c1_i32_667
  let v789 : BitVec 32 := Scalar.addi c0_i32_668 v788
  v789.toNat
def k0_off5 (d0 : Dev nD) (c0_i32_732 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_731 : BitVec 32 := 1#32
  let v864 : BitVec 32 := Scalar.addi v2 c1_i32_731
  let v865 : BitVec 32 := Scalar.subi v864 c0_i32_732
  let c8_i32_733 : BitVec 32 := 8#32
  let c0_i32_734 : BitVec 32 := 0#32
  let v866 : BitVec 1 := Scalar.cmpi .eq c8_i32_733 c0_i32_734
  let c1_i32_735 : BitVec 32 := 1#32
  let v867 : BitVec 32 := Scalar.select v866 c1_i32_735 c8_i32_733
  let v868 : BitVec 32 := Scalar.remsi v865 v867
  let c0_i32_737 : BitVec 32 := 0#32
  let v870 : BitVec 1 := Scalar.cmpi .slt v868 c0_i32_737
  let c0_i32_738 : BitVec 32 := 0#32
  let v871 : BitVec 1 := Scalar.cmpi .slt v867 c0_i32_738
  let v872 : BitVec 1 := Scalar.xori v870 v871
  let c0_i32_736 : BitVec 32 := 0#32
  let v869 : BitVec 1 := Scalar.cmpi .ne v868 c0_i32_736
  let v873 : BitVec 1 := Scalar.andi v872 v869
  let v874 : BitVec 32 := Scalar.addi v868 v867
  let v875 : BitVec 32 := Scalar.select v873 v874 v868
  let c512_i32_748 : BitVec 32 := 512#32
  let v889 : BitVec 32 := Scalar.muli v875 c512_i32_748
  let c0_i32_756 : BitVec 32 := 0#32
  ![v889.toNat, 0]
def k0_dev27 (d0 : Dev nD) : Nat :=
  let c0_i32_755 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_754 : BitVec 32 := 1#32
  let v894 : BitVec 32 := Scalar.muli v24 c1_i32_754
  let v895 : BitVec 32 := Scalar.addi c0_i32_755 v894
  v895.toNat
def k0_off6 (d0 : Dev nD) (c0_i32_740 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_739 : BitVec 32 := 1#32
  let v876 : BitVec 32 := Scalar.subi v2 c1_i32_739
  let v877 : BitVec 32 := Scalar.addi v876 c0_i32_740
  let c8_i32_741 : BitVec 32 := 8#32
  let c0_i32_742 : BitVec 32 := 0#32
  let v878 : BitVec 1 := Scalar.cmpi .eq c8_i32_741 c0_i32_742
  let c1_i32_743 : BitVec 32 := 1#32
  let v879 : BitVec 32 := Scalar.select v878 c1_i32_743 c8_i32_741
  let v880 : BitVec 32 := Scalar.remsi v877 v879
  let c0_i32_745 : BitVec 32 := 0#32
  let v882 : BitVec 1 := Scalar.cmpi .slt v880 c0_i32_745
  let c0_i32_746 : BitVec 32 := 0#32
  let v883 : BitVec 1 := Scalar.cmpi .slt v879 c0_i32_746
  let v884 : BitVec 1 := Scalar.xori v882 v883
  let c0_i32_744 : BitVec 32 := 0#32
  let v881 : BitVec 1 := Scalar.cmpi .ne v880 c0_i32_744
  let v885 : BitVec 1 := Scalar.andi v884 v881
  let v886 : BitVec 32 := Scalar.addi v880 v879
  let v887 : BitVec 32 := Scalar.select v885 v886 v880
  let c512_i32_751 : BitVec 32 := 512#32
  let v892 : BitVec 32 := Scalar.muli v887 c512_i32_751
  let c256_i32_752 : BitVec 32 := 256#32
  let v893 : BitVec 32 := Scalar.addi v892 c256_i32_752
  let c0_i32_762 : BitVec 32 := 0#32
  ![v893.toNat, 0]
def k0_dev28 (d0 : Dev nD) : Nat :=
  let c0_i32_761 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_760 : BitVec 32 := 1#32
  let v902 : BitVec 32 := Scalar.muli v13 c1_i32_760
  let v903 : BitVec 32 := Scalar.addi c0_i32_761 v902
  v903.toNat
def k0_dev29 (d0 : Dev nD) : Nat :=
  let c0_i32_811 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_810 : BitVec 32 := 1#32
  let v960 : BitVec 32 := Scalar.muli v24 c1_i32_810
  let v961 : BitVec 32 := Scalar.addi c0_i32_811 v960
  v961.toNat
def k0_dev30 (d0 : Dev nD) : Nat :=
  let c0_i32_817 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_816 : BitVec 32 := 1#32
  let v968 : BitVec 32 := Scalar.muli v13 c1_i32_816
  let v969 : BitVec 32 := Scalar.addi c0_i32_817 v968
  v969.toNat
def k0_dev31 (d0 : Dev nD) : Nat :=
  let c0_i32_866 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_865 : BitVec 32 := 1#32
  let v1026 : BitVec 32 := Scalar.muli v24 c1_i32_865
  let v1027 : BitVec 32 := Scalar.addi c0_i32_866 v1026
  v1027.toNat
def k0_dev32 (d0 : Dev nD) : Nat :=
  let c0_i32_872 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_871 : BitVec 32 := 1#32
  let v1034 : BitVec 32 := Scalar.muli v13 c1_i32_871
  let v1035 : BitVec 32 := Scalar.addi c0_i32_872 v1034
  v1035.toNat
def k0_dev33 (d0 : Dev nD) : Nat :=
  let c0_i32_921 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_920 : BitVec 32 := 1#32
  let v1092 : BitVec 32 := Scalar.muli v24 c1_i32_920
  let v1093 : BitVec 32 := Scalar.addi c0_i32_921 v1092
  v1093.toNat
def k0_dev34 (d0 : Dev nD) : Nat :=
  let c0_i32_927 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_926 : BitVec 32 := 1#32
  let v1100 : BitVec 32 := Scalar.muli v13 c1_i32_926
  let v1101 : BitVec 32 := Scalar.addi c0_i32_927 v1100
  v1101.toNat
def k0_dev35 (d0 : Dev nD) : Nat :=
  let c0_i32_976 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_975 : BitVec 32 := 1#32
  let v1158 : BitVec 32 := Scalar.muli v24 c1_i32_975
  let v1159 : BitVec 32 := Scalar.addi c0_i32_976 v1158
  v1159.toNat
def k0_dev36 (d0 : Dev nD) : Nat :=
  let c0_i32_982 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_981 : BitVec 32 := 1#32
  let v1166 : BitVec 32 := Scalar.muli v13 c1_i32_981
  let v1167 : BitVec 32 := Scalar.addi c0_i32_982 v1166
  v1167.toNat
def k0_dev37 (d0 : Dev nD) : Nat :=
  let c0_i32_1031 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1030 : BitVec 32 := 1#32
  let v1224 : BitVec 32 := Scalar.muli v24 c1_i32_1030
  let v1225 : BitVec 32 := Scalar.addi c0_i32_1031 v1224
  v1225.toNat
def k0_dev38 (d0 : Dev nD) : Nat :=
  let c0_i32_1037 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1036 : BitVec 32 := 1#32
  let v1232 : BitVec 32 := Scalar.muli v13 c1_i32_1036
  let v1233 : BitVec 32 := Scalar.addi c0_i32_1037 v1232
  v1233.toNat
def k0_dev39 (d0 : Dev nD) : Nat :=
  let c0_i32_1086 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1085 : BitVec 32 := 1#32
  let v1290 : BitVec 32 := Scalar.muli v24 c1_i32_1085
  let v1291 : BitVec 32 := Scalar.addi c0_i32_1086 v1290
  v1291.toNat
def k0_dev40 (d0 : Dev nD) : Nat :=
  let c0_i32_1092 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1091 : BitVec 32 := 1#32
  let v1298 : BitVec 32 := Scalar.muli v13 c1_i32_1091
  let v1299 : BitVec 32 := Scalar.addi c0_i32_1092 v1298
  v1299.toNat
abbrev stage0_0 : Fin 1 → Memref sig .tc .vmem S4096x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S8x4096x2048 : Shape := ⟨3, ![8, 4096, 2048]⟩
abbrev S_ : Shape := ⟨0, ![]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S_, .f32⟩
  | .hbm, ⟨2, _⟩ => ⟨S4096x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Program.lean ====
/-
The kernel's body as a sequence of uniform steps.

The printed body is a long straight line: seven reduce-scatter steps and seven all-gather steps, each moving one
chunk in each direction. Here each operation of a step is named once, over its memrefs, its semaphores and the
device it addresses, and the body is shown to be the sequence of those steps.
-/
module

public import proofs.«01_k».proof.Proof.Gen.KernelIdeal
public import proofs.«01_k».proof.Proof.Gen.KernelIdeal.Skeleton
public import Idealize.ShloMosaic.Lib.Pipeline.Launch
public import Idealize.ShloMosaic.Lib.Pipeline.Kit
public import Idealize.ShloMosaic.Lib.Tactic

@[expose] public section

noncomputable section

namespace Cert.KernelIdeal.AllReduce

open Idealize.ShloMosaic Idealize.SL.Sem Cert.KernelIdeal.Gen

variable {F : FTy → Type} [FloatOps F]

/-- A program of the kernel answering nothing. -/
abbrev Pr (F : FTy → Type) := Prog (TpuEff nD τ sig (Elt F) Λ₀ .tc) PUnit

/-- A 256-row chunk in vector memory. -/
abbrev Chunk := Memref sig .tc .vmem S256x2048 .f32

/-! ## The operations of a step -/

/-- Start a copy of chunk `src` into chunk `dst` of device `n`. -/
def opSend (src dst : Chunk) (n : Dev nD) (s r : DmaSem sig) (hs : src.view.WordExact) (hd : dst.view.WordExact) : Pr F :=
  .op (.enqueueDma src (.remote (Dev.tc n) dst (.dma s)) (.dma r) hs hd ⟨⟨rfl, Or.inl rfl⟩, trivial⟩) .ret

/-- Wait on a transfer's semaphore for the bytes of a chunk. -/
def opWait (s : DmaSem sig) (src dst : Chunk) (hs : src.view.WordExact) (hd : dst.view.WordExact) : Pr F :=
  .op (.waitDma2 s src dst hs hd) .ret

/-- Signal one unit to a semaphore of device `n`. -/
def opSignal (n : Dev nD) (s : Sem sig) : Pr F := semSignalWord n s 1#32

/-- Wait for one unit on one of this device's semaphores. -/
def opCredit (s : Sem sig) : Pr F := semWaitWord s 1#32

/-- What a step stores: the chunk of the output read, plus the chunk received. -/
def paySum (o : Vec F S256x2048 .f32) (w : Vec F S1x256x2048 .f32) : FVec F S256x2048 .f32 := k0_pay1 o w

/-- Add what a slot of the communication buffer `m` holds to the output's chunk at `off`. -/
def opAdd (m : Memref sig .tc .vmem S2x256x2048 .f32) (off : Fin 2 → Nat) (p : Fin 2)
    (hoff : ∀ a, off a + S256x2048.size a ≤ S4096x2048.size a)
    (hp : ∀ a, (![p.val, 0, 0] : Fin 3 → Nat) a + S1x256x2048.size a ≤ S2x256x2048.size a) : Pr F := do
  let o : Vec F S256x2048 .f32 ← .op (.load (Memref.whole cc0_stg0_0) (Rect.unit (s := S4096x2048) off S256x2048.size hoff).toLoadRect (View.loadsAt_vmem h_S256x2048)) .ret
  let w : Vec F S1x256x2048 .f32 ← .op (.load m (Rect.unit (s := S2x256x2048) ![p.val, 0, 0] S1x256x2048.size hp).toLoadRect (View.loadsAt_vmem h_S1x256x2048)) .ret
  let _ : Vec F S256x2048 .f32 ← .op (.load (Memref.whole cc0_stg0_0) (Rect.unit (s := S4096x2048) off S256x2048.size hoff).toLoadRect (View.loadsAt_vmem h_S256x2048)) .ret
  .op (.store (Memref.whole cc0_stg0_0) (Rect.unit (s := S4096x2048) off S256x2048.size hoff) (paySum o w) Finset.univ (View.stores_vmem_bits_univ h_S256x2048 rfl) (.inl rfl)) .ret

/-! ## Memrefs and semaphores as the body names them -/

/-- The output's chunk at `off`. -/
abbrev outAt (off : Fin 2 → Nat) (h : ∀ a, off a + S256x2048.size a ≤ S4096x2048.size a) : Chunk :=
  (Memref.whole cc0_stg0_0 : Memref sig .tc .vmem S4096x2048 .f32).slice (Rect.unit (s := S4096x2048) off S256x2048.size h) (fun _ => rfl)

/-- A slot lies in the communication buffer, -/
theorem inbSlot : ∀ p : Fin 2, ∀ a, (![p.val, 0, 0] : Fin 3 → Nat) a + S1x256x2048.size a ≤ S2x256x2048.size a := by decide
/-- a send or receive semaphore in its array, -/
theorem inbSem14 : ∀ k : Fin 14, ∀ a, (![k.val] : Fin 1 → Nat) a + S1.size a ≤ S14.size a := by decide
/-- a credit semaphore in its own. -/
theorem inbSem2 : ∀ k : Fin 2, ∀ a, (![k.val] : Fin 1 → Nat) a + S1.size a ≤ S2.size a := by decide

/-- The communication buffer of a direction (`true`: forward, to the right neighbour). -/
def comm : Bool → Memref sig .tc .vmem S2x256x2048 .f32
  | true => Memref.whole cc0_scratch0
  | false => Memref.whole cc0_scratch1

/-- Slot `p` of a direction's communication buffer. -/
abbrev slot (b : Bool) (p : Fin 2) : Chunk :=
  ((comm b).slice (Rect.unit (s := S2x256x2048) ![p.val, 0, 0] S1x256x2048.size (inbSlot p)) (fun _ => rfl)).squeeze S256x2048
    squeezes_S1x256x2048_S256x2048

/-- Member `k` of an array of fourteen transfer semaphores, as the body slices it. -/
abbrev semAt (a : DmaSems sig S14) (k : Fin 14) : DmaSem sig :=
  ((a.slice (Rect.unit (s := S14) ![k.val] S1.size (inbSem14 k))).squeeze S_ squeezes_S1_S_).sem

/-- Member `k` of a pair of counting semaphores, as the body slices it. -/
abbrev semAt2 (a : Sems sig S2) (k : Fin 2) : Sem sig :=
  ((a.slice (Rect.unit (s := S2) ![k.val] S1.size (inbSem2 k))).squeeze S_ squeezes_S1_S_).sem

/-- The semaphores of step `k` in direction `b`: the sender's, the receiver's. -/
def sendS (b : Bool) (k : Fin 14) : DmaSem sig := semAt (if b then cc0_scratch3 else cc0_scratch5) k
/-- and the receive semaphore. -/
def recvS (b : Bool) (k : Fin 14) : DmaSem sig := semAt (if b then cc0_scratch4 else cc0_scratch6) k
/-- The credit semaphore of slot `p` in direction `b`. -/
def credS (b : Bool) (p : Fin 2) : Sem sig := semAt2 (if b then cc0_scratch7 else cc0_scratch8) p

/-- The neighbour the body addresses in direction `b`. -/
def nxRaw (b : Bool) (c : Dev nD) : Dev nD :=
  if b then ⟨k0_dev2 c, k0_dev2_lt c⟩ else ⟨k0_dev1 c, k0_dev1_lt c⟩

/-- The chunk sent, and the chunk added into, at reduce-scatter step `h`; the chunk sent at all-gather step `h`. -/
def rsOut (b : Bool) (c : Dev nD) (h : Fin 7) : Chunk :=
  if b then outAt (k0_off1 c (BitVec.ofNat 32 h.val)) (k0_off1_inb c h) else outAt (k0_off2 c (BitVec.ofNat 32 h.val)) (k0_off2_inb c h)
/-- and an all-gather step. -/
def agOut (b : Bool) (c : Dev nD) (h : Fin 7) : Chunk :=
  if b then outAt (k0_off5 c (BitVec.ofNat 32 h.val)) (k0_off5_inb c h) else outAt (k0_off6 c (BitVec.ofNat 32 h.val)) (k0_off6_inb c h)

/-- The addition of a reduce-scatter step: the slot to the chunk of the output. -/
def rsAdd (b : Bool) (c : Dev nD) (h : Fin 7) (p : Fin 2) : Pr F :=
  if b then opAdd (comm true) (k0_off3 c (BitVec.ofNat 32 h.val)) p (k0_off3_inb c h) (inbSlot p)
  else opAdd (comm false) (k0_off4 c (BitVec.ofNat 32 h.val)) p (k0_off4_inb c h) (inbSlot p)

/-- The step numbers of the two phases among the fourteen. -/
abbrev rsIx (h : Fin 7) : Fin 14 := ⟨h.val, by omega⟩
/-- The number of an all-gather step among the fourteen. -/
abbrev agIx (h : Fin 7) : Fin 14 := ⟨7 + h.val, by omega⟩
/-- The slot of a reduce-scatter step. -/
abbrev par (h : Fin 7) : Fin 2 := ⟨h.val % 2, Nat.mod_lt _ (by decide)⟩

/-- A chunk is a whole number of words. -/
theorem we (m : Chunk) : m.view.WordExact := View.wordExact_bits rfl

/-! ## The steps -/

/-- Reduce-scatter step `h`, from its two sends to its two additions. -/
def rsMid (c : Dev nD) (h : Fin 7) : Pr F := do
  opSend (rsOut true c h) (slot true (par h)) (nxRaw true c) (sendS true (rsIx h)) (recvS true (rsIx h)) (we _) (we _)
  opSend (rsOut false c h) (slot false (par h)) (nxRaw false c) (sendS false (rsIx h)) (recvS false (rsIx h)) (we _) (we _)
  opWait (sendS true (rsIx h)) (slot true (par h)) (rsOut true c h) (we _) (we _)
  opWait (recvS true (rsIx h)) (rsOut true c h) (slot true (par h)) (we _) (we _)
  rsAdd true c h (par h)
  opWait (sendS false (rsIx h)) (slot false (par h)) (rsOut false c h) (we _) (we _)
  opWait (recvS false (rsIx h)) (rsOut false c h) (slot false (par h)) (we _) (we _)
  rsAdd false c h (par h)

/-- The credits a reduce-scatter step waits for. -/
def rsPre (h : Fin 7) : Pr F := do
  opCredit (credS true (par h))
  opCredit (credS false (par h))

/-- The credits a reduce-scatter step hands out. -/
def rsPost (c : Dev nD) (h : Fin 7) : Pr F := do
  opSignal (nxRaw false c) (credS true (par h))
  opSignal (nxRaw true c) (credS false (par h))

/-- All-gather step `h`. -/
def agMid (c : Dev nD) (h : Fin 7) : Pr F := do
  opSend (agOut true c h) (agOut true c h) (nxRaw true c) (sendS true (agIx h)) (recvS true (agIx h)) (we _) (we _)
  opSend (agOut false c h) (agOut false c h) (nxRaw false c) (sendS false (agIx h)) (recvS false (agIx h)) (we _) (we _)
  opWait (sendS true (agIx h)) (agOut true c h) (agOut true c h) (we _) (we _)
  opWait (recvS true (agIx h)) (agOut true c h) (agOut true c h) (we _) (we _)
  opWait (sendS false (agIx h)) (agOut false c h) (agOut false c h) (we _) (we _)
  opWait (recvS false (agIx h)) (agOut false c h) (agOut false c h) (we _) (we _)

/-- The input block as a matrix. -/
abbrev xMem : Memref sig .tc .hbm S4096x2048 .f32 :=
  ((Memref.whole main_arg0 : Memref sig .tc .hbm S1x4096x2048 .f32).slice (Rect.unit (s := S1x4096x2048) ![0, 0, 0] S1x4096x2048.size inb_S1x4096x2048_S1x4096x2048_0_0_0) (fun _ => rfl)).squeeze S4096x2048 squeezes_S1x4096x2048_S4096x2048

/-- The output. -/
abbrev oMem : Memref sig .tc .vmem S4096x2048 .f32 := Memref.whole cc0_stg0_0

/-- The entry: start the copy of the input into the output, meet both neighbours, wait for the copy. -/
def entry (c : Dev nD) : Pr F := do
  .op (.enqueueDma xMem (.here oMem) (.dma cc0_scratch2.sem) ((View.wordExact_bits rfl).reshape _ _) (View.wordExact_bits rfl) ⟨Or.inl rfl, trivial⟩) .ret
  opSignal (nxRaw false c) barrier0
  opSignal (nxRaw true c) barrier0
  semWaitWord barrier0 2#32
  .op (.waitDma2 cc0_scratch2.sem xMem oMem ((View.wordExact_bits rfl).reshape _ _) (View.wordExact_bits rfl)) .ret

/-- The body: the entry, the seven reduce-scatter steps with their credits, the seven all-gather steps. -/
def body (c : Dev nD) : Pr F := do
  entry c
  rsMid c 0; rsPost c 0; rsMid c 1; rsPost c 1
  rsPre 2; rsMid c 2; rsPost c 2; rsPre 3; rsMid c 3; rsPost c 3; rsPre 4; rsMid c 4; rsPost c 4
  rsPre 5; rsMid c 5; rsPre 6; rsMid c 6
  agMid c 0; agMid c 1; agMid c 2; agMid c 3; agMid c 4; agMid c 5; agMid c 6

end Cert.KernelIdeal.AllReduce
end
-- ==== Proof.Ring.lean ====
/-
The protocol of the bidirectional ring all-reduce: places, values, schedule, levels.

Eight devices stand in a ring. In each direction `b` (`true`: to the right neighbour) device `c` sends, at step
`k = 0 … 13`, the chunk of its own output that lies `k` places back against that direction, on the half of the rows
the direction owns. Steps 0 … 6 land in a slot of the neighbour's communication buffer and are added there; steps
7 … 13 land in the neighbour's output directly.
-/
module

public import proofs.«01_k».proof.Proof.Program
public import proofs.«01_k».proof.Proof.Gen.KernelIdeal.Launch
public import Idealize.ShloMosaic.Lib.Pipeline.Value

@[expose] public section

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds beside the ring's -/

/-- The algebra of the kernel's cells, -/
abbrev UB : Type := URounds (GSem nD τ sig) Bool
/-- beside that of the staging. -/
abbrev UU : Type := UR sig nD τ × UB

local notation "𝕄" => MT nD τ sig ℕ (Elt F) ℕ UU ℕ

/-- The staging's part, -/
abbrev EP : Emb (UR sig nD τ) (MT nD τ sig ℕ (Elt F) ℕ UU ℕ) := embL
/-- and the kernel's. -/
abbrev ER : Emb UB (MT nD τ sig ℕ (Elt F) ℕ UU ℕ) := embR

/-! ## The ring -/

/-- The neighbour direction `b` sends to, and the one it receives from. -/
def nx (b : Bool) (c : Dev nD) : Dev nD := ⟨(c.val + if b then 1 else 7) % 8, Nat.mod_lt _ (by decide)⟩
/-- and the one it receives from. -/
def pv (b : Bool) (c : Dev nD) : Dev nD := nx (!b) c

/-- The next of the previous is the device itself, -/
theorem nx_pv (b : Bool) (c : Dev nD) : nx b (pv b c) = c := by revert b c; decide
/-- and the previous of the next. -/
theorem pv_nx (b : Bool) (c : Dev nD) : pv b (nx b c) = c := by revert b c; decide

/-- The printed neighbour is the next. -/
theorem nxRaw_eq (b : Bool) (c : Dev nD) : nxRaw b c = nx b c := by revert b c; decide

/-- The place `k` steps back from `c` against direction `b`. -/
def bk (b : Bool) (k : ℕ) (c : Dev nD) : Fin 8 := ⟨(c.val + if b then 7 * k else k) % 8, Nat.mod_lt _ (by decide)⟩

/-- The block sent at a step is the one that the next device sends a step later. -/
theorem bk_nx (b : Bool) (k : ℕ) (c : Dev nD) : bk b (k + 1) (nx b c) = bk b k c := by
  apply Fin.ext; cases b <;> (simp only [bk, nx]; simp only [if_true, Bool.false_eq_true, if_false]; omega)
/-- Eight steps come back to the same block. -/
theorem bk_add_eight (b : Bool) (k : ℕ) (c : Dev nD) : bk b (k + 8) c = bk b k c := by
  apply Fin.ext; cases b <;> (simp only [bk]; simp only [if_true, Bool.false_eq_true, if_false]; omega)

/-! ## Chunks -/

/-- A chunk lies in the output. -/
theorem inbChunk (b : Bool) (q : Fin 8) :
    ∀ a, (![512 * q.val + (if b then 0 else 256), 0] : Fin 2 → Nat) a + S256x2048.size a ≤ S4096x2048.size a := by
  revert b q; decide

/-- The half of block `q` of the output that direction `b` owns. -/
abbrev chunk (b : Bool) (q : Fin 8) : Chunk := outAt ![512 * q.val + (if b then 0 else 256), 0] (inbChunk b q)

/-- The chunk `k` places back from device `c` against direction `b`. -/
abbrev ch (b : Bool) (k : ℕ) (c : Dev nD) : Chunk := chunk b (bk b k c)

/-- Where device `c` receives, at step `k` of direction `b`: a slot, then its output. -/
def dst (b : Bool) (k : ℕ) (c : Dev nD) : Chunk := if k < 7 then slot b ⟨k % 2, Nat.mod_lt _ (by decide)⟩ else ch b (k + 1) c

/-- The printed offsets of the chunks: sent to the right in the reduce-scatter, -/
theorem off1_eq (c : Dev nD) (h : Fin 7) : k0_off1 c (BitVec.ofNat 32 h.val) = ![512 * (bk true h.val c).val + 0, 0] := by
  revert c h; decide +kernel
/-- to the left, -/
theorem off2_eq (c : Dev nD) (h : Fin 7) : k0_off2 c (BitVec.ofNat 32 h.val) = ![512 * (bk false h.val c).val + 256, 0] := by
  revert c h; decide +kernel
/-- added to from the left, -/
theorem off3_eq (c : Dev nD) (h : Fin 7) : k0_off3 c (BitVec.ofNat 32 h.val) = ![512 * (bk true (h.val + 1) c).val + 0, 0] := by
  revert c h; decide +kernel
/-- from the right, -/
theorem off4_eq (c : Dev nD) (h : Fin 7) : k0_off4 c (BitVec.ofNat 32 h.val) = ![512 * (bk false (h.val + 1) c).val + 256, 0] := by
  revert c h; decide +kernel
/-- sent to the right in the all-gather, -/
theorem off5_eq (c : Dev nD) (h : Fin 7) : k0_off5 c (BitVec.ofNat 32 h.val) = ![512 * (bk true (7 + h.val) c).val + 0, 0] := by
  revert c h; decide +kernel
/-- and to the left. -/
theorem off6_eq (c : Dev nD) (h : Fin 7) : k0_off6 c (BitVec.ofNat 32 h.val) = ![512 * (bk false (7 + h.val) c).val + 256, 0] := by
  revert c h; decide +kernel

/-- Chunks at the same offsets are the same. -/
theorem outAt_congr {o o' : Fin 2 → Nat} (h : o = o') (p p') : outAt o p = outAt o' p' := by subst h; rfl

/-- A reduce-scatter step sends the chunk of its block, -/
theorem rsOut_eq (b : Bool) (c : Dev nD) (h : Fin 7) : rsOut b c h = ch b h.val c := by
  cases b
  · exact outAt_congr (off2_eq c h) _ _
  · exact outAt_congr (off1_eq c h) _ _
/-- as does an all-gather step, -/
theorem agOut_eq (b : Bool) (c : Dev nD) (h : Fin 7) : agOut b c h = ch b (7 + h.val) c := by
  cases b
  · exact outAt_congr (off6_eq c h) _ _
  · exact outAt_congr (off5_eq c h) _ _
/-- and what has come is added to the chunk of the next step. -/
theorem rsAdd_eq (b : Bool) (c : Dev nD) (h : Fin 7) (p : Fin 2) :
    rsAdd (F := F) b c h p = opAdd (comm b) ![512 * (bk b (h.val + 1) c).val + (if b then 0 else 256), 0] p (inbChunk b _) (inbSlot p) := by
  have key : ∀ (m : Memref sig .tc .vmem S2x256x2048 .f32) (o o' : Fin 2 → Nat) (e : o = o') (i i'),
      opAdd (F := F) m o p i (inbSlot p) = opAdd m o' p i' (inbSlot p) := by intro m o o' e i i'; subst e; rfl
  cases b
  · exact key _ _ _ (off4_eq c h) _ _
  · exact key _ _ _ (off3_eq c h) _ _

/-! ## Semaphores and cells -/

/-- The transfer semaphores of step `k` in direction `b`, and the credit semaphores, by number. -/
def sN (b : Bool) (k : ℕ) : DmaSem sig := ⟨(if b then 2 else 30) + k % 14, by have := Nat.mod_lt k (show 0 < 14 by decide); show _ < 58; split <;> omega⟩
/-- The receive semaphore's number, -/
def rN (b : Bool) (k : ℕ) : DmaSem sig := ⟨(if b then 16 else 44) + k % 14, by have := Nat.mod_lt k (show 0 < 14 by decide); show _ < 58; split <;> omega⟩
/-- the credit semaphore's, -/
def cN (b : Bool) (p : ℕ) : Sem sig := ⟨(if b then 0 else 2) + p % 2, by have := Nat.mod_lt p (show 0 < 2 by decide); show _ < 5; split <;> omega⟩
/-- and the one of the copy of the input. -/
abbrev copyS : DmaSem sig := cc0_scratch2.sem

/-- The printed send semaphores, -/
theorem sendS_eq (b : Bool) (k : Fin 14) : sendS b k = sN b k.val := by revert b k; decide +kernel
/-- receive semaphores -/
theorem recvS_eq (b : Bool) (k : Fin 14) : recvS b k = rN b k.val := by revert b k; decide +kernel
/-- and credit semaphores have these numbers. -/
theorem credS_eq (b : Bool) (p : Fin 2) : credS b p = cN b p.val := by revert b p; decide +kernel

/-- The cells of a device: its barrier, -/
abbrev barC (c : Dev nD) : GSem nD τ sig := ((c : Thread nD τ), .reg barrier0)
/-- the copy of its input, -/
abbrev copyC (c : Dev nD) : GSem nD τ sig := ((c : Thread nD τ), .dma copyS)
/-- a step's send, -/
abbrev sendC (b : Bool) (k : ℕ) (c : Dev nD) : GSem nD τ sig := ((c : Thread nD τ), .dma (sN b k))
/-- a step's arrival, -/
abbrev recvC (b : Bool) (k : ℕ) (c : Dev nD) : GSem nD τ sig := ((c : Thread nD τ), .dma (rN b k))
/-- and a slot's credit. -/
abbrev credC (b : Bool) (p : ℕ) (c : Dev nD) : GSem nD τ sig := ((c : Thread nD τ), .reg (cN b p))

/-- What a semaphore is for. -/
inductive Role where
  | bar | copy | send (b : Bool) (k : ℕ) | recv (b : Bool) (k : ℕ) | credit (b : Bool) (p : ℕ) | other

/-- A semaphore's role, by its number. -/
def role : SemLoc sig → Role
  | .reg s => if s.val < 2 then .credit true s.val else if s.val < 4 then .credit false (s.val - 2) else .bar
  | .dma s => if s.val = 0 then .other else if s.val = 1 then .copy else if s.val < 16 then .send true (s.val - 2)
      else if s.val < 30 then .recv true (s.val - 16) else if s.val < 44 then .send false (s.val - 30) else .recv false (s.val - 44)

/-- The role of the barrier, -/
theorem role_bar : role (.reg barrier0) = .bar := rfl
/-- of the copy of the input, -/
theorem role_copy : role (.dma copyS) = .copy := rfl
/-- of a send, -/
theorem role_send (b : Bool) {k : ℕ} (hk : k < 14) : role (.dma (sN b k)) = .send b k := by
  have h : k % 14 = k := Nat.mod_eq_of_lt hk
  cases b <;> simp only [role, sN, h, if_true, Bool.false_eq_true, if_false]
  · rw [if_neg (by omega), if_neg (by omega), if_neg (by omega), if_neg (by omega), if_pos (by omega)]; congr 1; omega
  · rw [if_neg (by omega), if_neg (by omega), if_pos (by omega)]; congr 1; omega
/-- of an arrival -/
theorem role_recv (b : Bool) {k : ℕ} (hk : k < 14) : role (.dma (rN b k)) = .recv b k := by
  have h : k % 14 = k := Nat.mod_eq_of_lt hk
  cases b <;> simp only [role, rN, h, if_true, Bool.false_eq_true, if_false]
  · rw [if_neg (by omega), if_neg (by omega), if_neg (by omega), if_neg (by omega), if_neg (by omega)]; congr 1; omega
  · rw [if_neg (by omega), if_neg (by omega), if_neg (by omega), if_pos (by omega)]; congr 1; omega
/-- and of a credit. -/
theorem role_cred (b : Bool) (p : ℕ) : role (.reg (cN b p)) = .credit b (p % 2) := by
  have := Nat.mod_lt p (show 0 < 2 by decide)
  cases b <;> simp only [role, cN, if_true, Bool.false_eq_true, if_false]
  · rw [if_neg (by omega), if_pos (by omega)]; congr 1; omega
  · rw [if_pos (by omega)]; congr 1; omega

end Cert.KernelIdeal.AllReduce
end
-- ==== Proof.Common.lean ====
/-
The schedule of the ring: what each cell's signals hand over, and their amounts.
-/
module

public import proofs.«01_k».proof.Proof.Ring

@[expose] public section

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## Amounts -/

/-- The credit of one chunk's transfer, and of the copy of the whole block. -/
@[irreducible] def N : ℕ := (chunk true 0).view.dmaCredit
@[irreducible] def NC : ℕ := oMem.view.dmaCredit
/-- A chunk's amount is positive, -/
theorem N_pos : 0 < N := by unfold N; exact View.dmaCredit_pos _ (by decide)
/-- and so is the whole input's. -/
theorem NC_pos : 0 < NC := by unfold NC; exact View.dmaCredit_pos _ (by decide)
/-- The copy of the input credits `NC`. -/
theorem amount_out : oMem.view.dmaCredit = NC := by unfold NC; rfl
/-- A copy of a chunk credits `N`, -/
theorem amount_chunk (b : Bool) (q : Fin 8) : (chunk b q).view.dmaCredit = N := by unfold N; rfl
/-- as does one into a slot, -/
theorem amount_slot (b : Bool) (p : Fin 2) : (slot b p).view.dmaCredit = N := by unfold N; cases b <;> rfl
/-- whatever a step's destination is. -/
theorem amount_dst (b : Bool) (k : ℕ) (c : Dev nD) : (dst b k c).view.dmaCredit = N := by
  unfold dst; split
  · exact amount_slot _ _
  · exact amount_chunk _ _

/-! ## Values -/

variable (m : (ℓ : Loc nD τ sig) → Buf (Elt F) ℓ) (ρ : Dev nD → PrngReg)

/-- The memory at launch: contents `m`, every semaphore at zero. -/
def s₀ : MemSt nD τ sig (Elt F) := ⟨m, fun _ => 0, ρ⟩

/-- A device's input block as a matrix. -/
def xin (c : Dev nD) : Vec F S4096x2048 .f32 := xMem.view.read (Elt F) (m ((c : Thread nD τ).loc main_arg0))

/-- A device's input on one of its chunks. -/
def xch (b : Bool) (q : Fin 8) (c : Dev nD) : Vec F S256x2048 .f32 := (chunk b q).view.read (Elt F) (xin m c)

/-- What device `c` sends at step `k` of direction `b`: its input, then what it received with its input added, then
    what it received. -/
def V (b : Bool) : ℕ → Dev nD → Vec F S256x2048 .f32
  | 0, c => xch m b (bk b 0 c) c
  | k + 1, c => if k < 7 then addf (xch m b (bk b (k + 1) c) c) (V b k (pv b c)) else V b k (pv b c)

/-! ## Holding a chunk -/

/-- Device `c` holds memref `M`, reading `w`; holds it at any contents. -/
def holds (c : Dev nD) (M : Chunk) (w : Vec F S256x2048 .f32) : sProp 𝕄 :=
  iprop(∃ f, ⌜M.view.read (Elt F) f = w⌝ ∗ M.view.loc (c : Thread nD τ) ↦[M.view.set]{fullShare} f)
/-- Holds it at any contents. -/
def any (c : Dev nD) (M : Chunk) : sProp 𝕄 :=
  iprop(∃ f : Buf (Elt F) (M.view.loc (c : Thread nD τ)), M.view.loc (c : Thread nD τ) ↦[M.view.set]{fullShare} f)

omit [FloatOps F] in
instance holds_storable (c : Dev nD) (M : Chunk) (w) : BI.Storable (upEmb : UEmb _ 𝕄) (holds (F := F) c M w) := by unfold holds; infer_instance
omit [FloatOps F] in
instance any_storable (c : Dev nD) (M : Chunk) : BI.Storable (upEmb : UEmb _ 𝕄) (any (F := F) c M) := by unfold any; infer_instance

omit [FloatOps F] in
/-- What is held at known contents is held at some. -/
theorem any_of_holds (c : Dev nD) (M : Chunk) (w) : holds (F := F) c M w ⊢ any c M := by
  unfold holds any; iintro ⟨%f, -, H⟩; iexists f; iexact H

/-! ## The schedule -/

/-- The slot of a step: the one of its parity. -/
abbrev slotN (b : Bool) (p : ℕ) : Chunk := slot b ⟨p % 2, Nat.mod_lt _ (by decide)⟩

/-- What the sender of step `k` hands over besides the chunk sent: the chunk of the other half it is done with, and
    that its credit cell has come to the round the receiver is to credit. -/
def extra (b : Bool) (k : ℕ) (c : Dev nD) : sProp 𝕄 :=
  iprop((if 1 ≤ k ∧ k ≤ 7 then any c (ch (!b) (k - 1) c) else iprop(emp)) ∗ (if k < 7 then reached ER (credC b k c) (k / 2) else iprop(emp)))

omit [FloatOps F] in
instance extra_storable (b : Bool) (k : ℕ) (c : Dev nD) : BI.Storable (upEmb : UEmb _ 𝕄) (extra (F := F) b k c) := by
  unfold extra; split <;> split <;> infer_instance

/-- What an arrival hands its receiver. -/
def recvPay (b : Bool) (k : ℕ) (c : Dev nD) : sProp 𝕄 := iprop(holds c (dst b k c) (V m b k (pv b c)) ∗ extra b k (pv b c))

/-- What a neighbour's barrier signal hands over: the two slots it receives into. -/
def barPay (b : Bool) (c : Dev nD) : sProp 𝕄 := iprop(any (nx b c) (slot b 0) ∗ any (nx b c) (slot b 1))

/-- What the copy of the input hands back: the input, and the output holding it. -/
def copyPay (c : Dev nD) : sProp 𝕄 :=
  iprop((xMem.view.loc (c : Thread nD τ) ↦[xMem.view.set]{fullShare} m ((c : Thread nD τ).loc main_arg0))
    ∗ (oMem.view.loc (c : Thread nD τ) ↦[oMem.view.set]{fullShare} xin m c))

omit [FloatOps F] in
instance barPay_storable (b : Bool) (c : Dev nD) : BI.Storable (upEmb : UEmb _ 𝕄) (barPay (F := F) b c) := by unfold barPay; infer_instance
omit [FloatOps F] in
instance copyPay_storable (c : Dev nD) : BI.Storable (upEmb : UEmb _ 𝕄) (copyPay (F := F) m c) := by unfold copyPay; infer_instance
instance recvPay_storable (b : Bool) (k : ℕ) (c : Dev nD) : BI.Storable (upEmb : UEmb _ 𝕄) (recvPay (F := F) m b k c) := by unfold recvPay; infer_instance

/-- Who pays a cell in round `r`: both neighbours a barrier cell's first round; one payer each round of the rest. -/
def duts (r : ℕ) : Role → Finset Bool
  | .bar => if r = 0 then Finset.univ else ∅
  | .copy => if r = 0 then {false} else ∅
  | .send _ _ => if r = 0 then {false} else ∅
  | .recv _ _ => if r = 0 then {false} else ∅
  | .credit _ p => if 2 * r + p ≤ 4 then {false} else ∅
  | .other => ∅

/-- How much one payment is. -/
def amt : Role → ℕ
  | .bar => 1
  | .credit _ _ => 1
  | .copy => NC
  | _ => N

/-- What one payment hands over. -/
def pay (c : Dev nD) (d : Bool) : Role → sProp 𝕄
  | .bar => barPay d c
  | .copy => copyPay m c
  | .send b k => holds c (ch b k c) (V m b k c)
  | .recv b k => recvPay m b k c
  | .credit b p => any (nx b c) (slotN b p)
  | .other => iprop(emp)

/-- Every payment is positive. -/
theorem amt_pos (x : Role) : 0 < amt x := by
  cases x <;> simp only [amt, N_pos, NC_pos, Nat.one_pos]

/-- The schedule. A barrier cell has one duty per neighbour; a copy, send or receive cell has one duty at round 0; a
    credit cell one duty a round, as often as its slot is handed back. -/
def Rd : Rounds.Schedule (GSem nD τ sig) Bool 𝕄 where
  duties g r := if g.1.2 = .tc then duts r (role g.2) else ∅
  unitless _ := False
  amount g _ _ := amt (role g.2)
  payload g _ d := pay m g.1.1 d (role g.2)
  amount_pos g _ _ _ := amt_pos _

instance Rd_payload_storable (g : GSem nD τ sig) (r : ℕ) (d : Bool) :
    BI.Storable (upEmb : UEmb _ 𝕄) ((Rd (F := F) m).payload g r d) := by
  show BI.Storable upEmb (pay m g.1.1 d (role g.2))
  cases role g.2 <;> (unfold pay; infer_instance)

section Sched
variable (c : Dev nD)

/-- A cell's payers are those of its role. -/
theorem duties_tc (sm : SemLoc sig) (r : ℕ) : (Rd (F := F) m).duties ((c : Thread nD τ), sm) r = duts r (role sm) := by
  simp only [Rd, if_true]
/-- The barrier cell has two payers, -/
theorem duties_bar : (Rd (F := F) m).duties (barC c) 0 = Finset.univ := by rw [duties_tc, role_bar]; rfl
/-- the input's copy cell one, -/
theorem duties_copy : (Rd (F := F) m).duties (copyC c) 0 = {false} := by rw [duties_tc, role_copy]; rfl
/-- a send cell one, -/
theorem duties_send (b : Bool) {k : ℕ} (hk : k < 14) : (Rd (F := F) m).duties (sendC b k c) 0 = {false} := by rw [duties_tc, role_send b hk]; rfl
/-- a receive cell one, -/
theorem duties_recv (b : Bool) {k : ℕ} (hk : k < 14) : (Rd (F := F) m).duties (recvC b k c) 0 = {false} := by rw [duties_tc, role_recv b hk]; rfl
/-- a credit cell one in each round of a step that gives a credit, -/
theorem duties_cred (b : Bool) {k : ℕ} (hk : k ≤ 4) : (Rd (F := F) m).duties (credC b k c) (k / 2) = {false} := by
  rw [duties_tc, role_cred]; exact if_pos (by omega)

/-- No duty of a cell but a credit cell past round 0; none of a credit cell once its slot is no longer reused. -/
theorem duties_later (sm : SemLoc sig) (h : ∀ b p, role sm ≠ .credit b p) : ∀ r, 1 ≤ r → (Rd (F := F) m).duties ((c : Thread nD τ), sm) r = ∅ := by
  intro r hr; rw [duties_tc]
  have h0 : ¬ r = 0 := by omega
  cases e : role sm <;> first | exact absurd e (h _ _) | (unfold duts; first | rfl | exact if_neg h0)
/-- and none in any later round. -/
theorem duties_cred_later (b : Bool) (p R : ℕ) (hR : 4 < 2 * R + p % 2) : ∀ r, R ≤ r → (Rd (F := F) m).duties (credC b p c) r = ∅ := by
  intro r hr; rw [duties_tc, role_cred]; exact if_neg (by omega)

/-- A barrier signal is one unit, -/
theorem amount_bar (d : Bool) : (Rd (F := F) m).amount (barC c) 0 d = 1 := rfl
/-- the copy of the input pays `NC`, -/
theorem amount_copy (d : Bool) : (Rd (F := F) m).amount (copyC c) 0 d = NC := rfl
/-- a step's copy pays its sender `N` -/
theorem amount_send (b : Bool) {k : ℕ} (hk : k < 14) (d : Bool) : (Rd (F := F) m).amount (sendC b k c) 0 d = N := by
  show amt (role _) = N; rw [role_send b hk]; rfl
/-- and its receiver `N`, -/
theorem amount_recv (b : Bool) {k : ℕ} (hk : k < 14) (d : Bool) : (Rd (F := F) m).amount (recvC b k c) 0 d = N := by
  show amt (role _) = N; rw [role_recv b hk]; rfl
/-- a credit is one unit. -/
theorem amount_cred (b : Bool) (p r : ℕ) (d : Bool) : (Rd (F := F) m).amount (credC b p c) r d = 1 := by
  show amt (role _) = 1; rw [role_cred]; rfl

/-- The barrier's wait is for two units. -/
theorem expect_bar : (Rd (F := F) m).expect (barC c) 0 = 2 := by
  unfold Schedule.expect Schedule.amountOf
  rw [duties_bar, Finset.sum_congr rfl fun d _ => amount_bar m c d, Finset.sum_const, Finset.card_univ, Fintype.card_bool, smul_eq_mul]
/-- A round of one payer expects what that one pays: -/
theorem expect_one (g : GSem nD τ sig) (r : ℕ) (h : (Rd (F := F) m).duties g r = {false}) : (Rd (F := F) m).expect g r = (Rd (F := F) m).amount g r false := by
  unfold Schedule.expect Schedule.amountOf; rw [h, Finset.sum_singleton]
/-- `NC` for the copy of the input, -/
theorem expect_copy : (Rd (F := F) m).expect (copyC c) 0 = NC := (expect_one m _ _ (duties_copy m c)).trans (amount_copy m c _)
/-- `N` for a send, -/
theorem expect_send (b : Bool) {k : ℕ} (hk : k < 14) : (Rd (F := F) m).expect (sendC b k c) 0 = N :=
  (expect_one m _ _ (duties_send m c b hk)).trans (amount_send m c b hk _)
/-- `N` for an arrival, -/
theorem expect_recv (b : Bool) {k : ℕ} (hk : k < 14) : (Rd (F := F) m).expect (recvC b k c) 0 = N :=
  (expect_one m _ _ (duties_recv m c b hk)).trans (amount_recv m c b hk _)
/-- one unit for a credit. -/
theorem expect_cred (b : Bool) {k : ℕ} (hk : k ≤ 4) : (Rd (F := F) m).expect (credC b k c) (k / 2) = 1 :=
  (expect_one m _ _ (duties_cred m c b hk)).trans (amount_cred m c b _ _ _)

/-- A barrier signal hands over two slots, -/
theorem payload_bar (d : Bool) : (Rd (F := F) m).payload (barC c) 0 d = barPay d c := rfl
/-- the copy of the input the input and the output, -/
theorem payload_copy (d : Bool) : (Rd (F := F) m).payload (copyC c) 0 d = copyPay m c := rfl
/-- the end of a send the chunk sent, -/
theorem payload_send (b : Bool) {k : ℕ} (hk : k < 14) (d : Bool) : (Rd (F := F) m).payload (sendC b k c) 0 d = holds c (ch b k c) (V m b k c) := by
  show pay m c d (role _) = _; rw [role_send b hk]; rfl
/-- an arrival what landed and what the sender adds to it, -/
theorem payload_recv (b : Bool) {k : ℕ} (hk : k < 14) (d : Bool) : (Rd (F := F) m).payload (recvC b k c) 0 d = recvPay m b k c := by
  show pay m c d (role _) = _; rw [role_recv b hk]; rfl
/-- a credit the slot at any contents. -/
theorem payload_cred (b : Bool) (p r : ℕ) (d : Bool) : (Rd (F := F) m).payload (credC b p c) r d = any (nx b c) (slotN b p) := by
  show pay m c d (role _) = _; rw [role_cred]; unfold pay slotN; simp only [Nat.mod_mod]

omit [FloatOps F] in
/-- A separating conjunction over both directions. -/
theorem bigSep_dirs (Φ : Bool → sProp 𝕄) : bigSep Finset.univ Φ = iprop(Φ true ∗ Φ false) := by
  rw [bigSep_univ_eq_bigSepL [true, false] (by decide) (by decide), bigSepL_cons_cons, bigSepL_singleton]; rfl

/-- All that the barrier's round hands over: both neighbours' slots. -/
theorem rest_bar : bigSep ((Rd (F := F) m).duties (barC c) 0 \ ∅) (fun d => (Rd (F := F) m).payload (barC c) 0 d) = iprop(barPay true c ∗ barPay false c) := by
  rw [Finset.sdiff_empty, duties_bar, bigSep_dirs]; rfl
/-- All that a round of one payer hands over is that payer's share: -/
theorem rest_one (g : GSem nD τ sig) (r : ℕ) (h : (Rd (F := F) m).duties g r = {false}) :
    bigSep ((Rd (F := F) m).duties g r \ ∅) (fun d => (Rd (F := F) m).payload g r d) = (Rd (F := F) m).payload g r false := by
  rw [Finset.sdiff_empty, h, bigSep_singleton]
/-- for the copy of the input, -/
theorem rest_copy : bigSep ((Rd (F := F) m).duties (copyC c) 0 \ ∅) (fun d => (Rd (F := F) m).payload (copyC c) 0 d) = copyPay m c :=
  (rest_one m _ _ (duties_copy m c)).trans (payload_copy m c _)
/-- a send, -/
theorem rest_send (b : Bool) {k : ℕ} (hk : k < 14) : bigSep ((Rd (F := F) m).duties (sendC b k c) 0 \ ∅) (fun d => (Rd (F := F) m).payload (sendC b k c) 0 d) = holds c (ch b k c) (V m b k c) :=
  (rest_one m _ _ (duties_send m c b hk)).trans (payload_send m c b hk _)
/-- an arrival, -/
theorem rest_recv (b : Bool) {k : ℕ} (hk : k < 14) : bigSep ((Rd (F := F) m).duties (recvC b k c) 0 \ ∅) (fun d => (Rd (F := F) m).payload (recvC b k c) 0 d) = recvPay m b k c :=
  (rest_one m _ _ (duties_recv m c b hk)).trans (payload_recv m c b hk _)
/-- a credit. -/
theorem rest_cred (b : Bool) {k : ℕ} (hk : k ≤ 4) : bigSep ((Rd (F := F) m).duties (credC b k c) (k / 2) \ ∅) (fun d => (Rd (F := F) m).payload (credC b k c) (k / 2) d) = any (nx b c) (slotN b k) :=
  (rest_one m _ _ (duties_cred m c b hk)).trans (payload_cred m c b _ _ _)

end Sched

end Cert.KernelIdeal.AllReduce
end
-- ==== Proof.Levels.lean ====
/-
What each device owes at each point, and the order the waits follow.
-/
module

public import proofs.«01_k».proof.Proof.Common

@[expose] public section

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- What a device owes: amounts by cell and round. -/
abbrev Owed := CellTallies nD τ sig ℕ

/-- What step `j` of device `c` pays: both neighbours' arrivals, then their credits. -/
def sd (c : Dev nD) (j : ℕ) : Owed := tallyAt (recvC true j (nx true c)) 0 N + tallyAt (recvC false j (nx false c)) 0 N
/-- and the credits of step `j`, which the first five steps give. -/
def cr (c : Dev nD) (j : ℕ) : Owed :=
  if j ≤ 4 then tallyAt (credC true j (pv true c)) j 1 + tallyAt (credC false j (pv false c)) j 1 else 0

/-- What device `c` owes before step `k`; during it, once both its transfers have started; at launch. -/
def Orest (c : Dev nD) (k : ℕ) : Owed := ∑ j ∈ Finset.Ico k 14, (sd c j + cr c j)
/-- What is owed during step `k`, once both transfers have started, -/
def Omid (c : Dev nD) (k : ℕ) : Owed := Orest c (k + 1) + cr c k
/-- and at launch. -/
def O₀ (c : Dev nD) : Owed := Orest c 0 + tallyAt (barC (nx true c)) 0 1 + tallyAt (barC (nx false c)) 0 1

/-- Four terms in another order, -/
theorem rev_four {A : Type} [AddCommMonoid A] (t f r o : A) : t + f + r + o = o + r + f + t := by
  simp only [add_comm, add_left_comm, add_assoc]
/-- and three. -/
theorem rev_three {A : Type} [AddCommMonoid A] (o t f : A) : o + (t + f) = o + f + t := by
  simp only [add_comm, add_left_comm, add_assoc]

/-- Before step `k` a device owes both arrivals of the step and what it owes during it. -/
theorem Orest_peel (c : Dev nD) {k : ℕ} (hk : k < 14) :
    Orest c k = Omid c k + tallyAt (recvC false k (nx false c)) 0 N + tallyAt (recvC true k (nx true c)) 0 N := by
  unfold Omid Orest
  rw [show Finset.Ico k 14 = insert k (Finset.Ico (k + 1) 14) by ext j; simp only [Finset.mem_insert, Finset.mem_Ico]; omega,
    Finset.sum_insert (by simp only [Finset.mem_Ico]; omega), sd]
  exact rev_four _ _ _ _
/-- From step five on a device owes no credit, -/
theorem Omid_of_gt (c : Dev nD) {k : ℕ} (hk : 4 < k) : Omid c k = Orest c (k + 1) := by
  unfold Omid cr; rw [if_neg (by omega), add_zero]
/-- before that two. -/
theorem Omid_peel (c : Dev nD) {k : ℕ} (hk : k ≤ 4) :
    Omid c k = Orest c (k + 1) + tallyAt (credC false k (pv false c)) k 1 + tallyAt (credC true k (pv true c)) k 1 := by
  unfold Omid cr; rw [if_pos hk]; exact rev_three _ _ _
/-- After the last step a device owes nothing. -/
theorem Orest_end (c : Dev nD) : Orest c 14 = 0 := by unfold Orest; rw [Finset.Ico_self, Finset.sum_empty]

/-! ## Levels -/

/-- The rounds that count, of every cell of a device. -/
def L (g : GSem nD τ sig) : Finset ℕ := if g.1.2 = .tc then Finset.range 14 else ∅
/-- The level of a role's round `ι`. -/
def lvOf (ι : ℕ) : Role → ℕ
  | .bar => 1
  | .recv _ k => 10 * k + 5
  | .credit _ _ => 10 * ι + 20
  | _ => 0
/-- The level of a cell: the barrier first, then arrivals by their step and credits by the step they belong to. -/
def lv (g : GSem nD τ sig) (ι : ℕ) : ℕ := lvOf ι (role g.2)

/-- Only these cells have levels; -/
theorem L_of_ne (g : GSem nD τ sig) (h : g.1.2 ≠ .tc) : L g = ∅ := if_neg h
/-- a device's own has fourteen rounds, -/
theorem L_tc (c : Dev nD) (sm : SemLoc sig) : L ((c : Thread nD τ), sm) = Finset.range 14 := by simp only [L, if_true]
/-- each number below fourteen. -/
theorem mem_L (c : Dev nD) (sm : SemLoc sig) {ι : ℕ} (h : ι < 14) : ι ∈ L ((c : Thread nD τ), sm) := by rw [L_tc]; exact Finset.mem_range.mpr h

/-- The barrier lies above the copies, -/
theorem lv_bar (c : Dev nD) (ι : ℕ) : lv (barC c) ι = 1 := by unfold lv; rw [role_bar]; rfl
/-- the copy of the input -/
theorem lv_copy (c : Dev nD) (ι : ℕ) : lv (copyC c) ι = 0 := by unfold lv; rw [role_copy]; rfl
/-- and the sends lowest, -/
theorem lv_send (b : Bool) {k : ℕ} (hk : k < 14) (c : Dev nD) (ι : ℕ) : lv (sendC b k c) ι = 0 := by unfold lv; rw [role_send b hk]; rfl
/-- an arrival by its step, -/
theorem lv_recv (b : Bool) {k : ℕ} (hk : k < 14) (c : Dev nD) (ι : ℕ) : lv (recvC b k c) ι = 10 * k + 5 := by unfold lv; rw [role_recv b hk]; rfl
/-- a credit by its step, above the arrivals of the step and of the next. -/
theorem lv_cred (b : Bool) (p : ℕ) (c : Dev nD) (ι : ℕ) : lv (credC b p c) ι = 10 * ι + 20 := by unfold lv; rw [role_cred]; rfl

/-- Everything owed lies at level `n` or above. -/
def Low (n : ℕ) (O : Owed) : Prop := ∀ g u, 0 < O g u → u ∈ L g ∧ n ≤ lv g u

/-- What is above a bound is above a lower one. -/
theorem Low.mono {n n' : ℕ} (h : n' ≤ n) {O : Owed} (H : Low n O) : Low n' O := fun g u hg => ⟨(H g u hg).1, h.trans (H g u hg).2⟩
/-- Owing nothing is above any bound. -/
theorem Low.zero (n : ℕ) : Low n 0 := fun g u hg => absurd hg (Nat.lt_irrefl 0)
/-- What is owed together is above a bound that both parts are above. -/
theorem Low.add {n : ℕ} {O O' : Owed} (H : Low n O) (H' : Low n O') : Low n (O + O') := fun g u hg => by
  rw [Pi.add_apply, Finsupp.add_apply] at hg
  rcases Nat.eq_zero_or_pos (O g u) with h | h
  · exact H' g u (by omega)
  · exact H g u h
/-- One debt, at the level of its cell. -/
theorem Low.tally {n : ℕ} {c : Dev nD} {sm : SemLoc sig} {ι a : ℕ} (hι : ι < 14) (hl : n ≤ lv ((c : Thread nD τ), sm) ι) :
    Low n (tallyAt ((c : Thread nD τ), sm) ι a) := fun g u hg => by
  rw [tallyAt_apply] at hg
  by_cases h : g = ((c : Thread nD τ), sm) ∧ u = ι
  · rw [h.1, h.2]; exact ⟨mem_L c sm hι, hl⟩
  · rw [if_neg h] at hg; exact absurd hg (Nat.lt_irrefl 0)
/-- A sum of debts. -/
theorem Low.sum {n : ℕ} (s : Finset ℕ) (f : ℕ → Owed) (H : ∀ j ∈ s, Low n (f j)) : Low n (∑ j ∈ s, f j) := by
  induction s using Finset.induction_on with
  | empty => rw [Finset.sum_empty]; exact Low.zero n
  | insert a s ha ih =>
    rw [Finset.sum_insert ha]
    exact (H a (Finset.mem_insert_self _ _)).add (ih fun j hj => H j (Finset.mem_insert_of_mem hj))

/-- The arrivals of step `j` are owed at its level, -/
theorem low_sd (c : Dev nD) {j : ℕ} (hj : j < 14) : Low (10 * j + 5) (sd c j) :=
  (Low.tally (by decide) (by rw [lv_recv true hj])).add (Low.tally (by decide) (by rw [lv_recv false hj]))
/-- the credits at theirs, -/
theorem low_cr (c : Dev nD) (j : ℕ) : Low (10 * j + 20) (cr c j) := by
  unfold cr; split
  · exact (Low.tally (by omega) (by rw [lv_cred])).add (Low.tally (by omega) (by rw [lv_cred]))
  · exact Low.zero _
/-- all that is owed before step `k` -/
theorem low_rest (c : Dev nD) (k : ℕ) : Low (10 * k + 5) (Orest c k) := Low.sum _ _ fun j hj => by
  have h := Finset.mem_Ico.mp hj
  exact ((low_sd c h.2).mono (by omega)).add ((low_cr c j).mono (by omega))
/-- and during it, -/
theorem low_mid (c : Dev nD) (k : ℕ) : Low (10 * k + 15) (Omid c k) :=
  ((low_rest c (k + 1)).mono (by omega)).add ((low_cr c k).mono (by omega))
/-- and at launch. -/
theorem low_O₀ (c : Dev nD) : Low 1 (O₀ c) :=
  (((low_rest c 0).mono (by omega)).add (Low.tally (by decide) (by rw [lv_bar]))).add (Low.tally (by decide) (by rw [lv_bar]))

omit [FloatOps F] in
/-- A wait below everything owed. -/
theorem mayWait {c : Dev nD} {sm : SemLoc sig} {ι n : ℕ} {O : Owed} (hι : ι < 14) (hl : lv ((c : Thread nD τ), sm) ι < n) (H : Low n O) :
    (levAts L lv : sProp 𝕄) ⊢ MayWait (c : Thread nD τ) sm ι O :=
  MayOwe.of_cut (L := L) (lev := lv) (lv ((c : Thread nD τ), sm) ι) (fun p hp => by rw [Finset.mem_singleton.mp hp]; exact mem_L c sm hι)
    (fun g u hg => (H g u hg).1) (fun p hp => by rw [Finset.mem_singleton.mp hp]) (fun g u hg => lt_of_lt_of_le hl (H g u hg).2)

end Cert.KernelIdeal.AllReduce
end
-- ==== Proof.Steps.lean ====
/-
The rules of the kernel's operations, each stated once for a symbolic device, direction and step.
-/
module

public import proofs.«01_k».proof.Proof.Levels

@[expose] public section

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-- The kernel has no loop, so no measure is named. -/
abbrev 𝒱₀ : Variants := Variants.none

/-- The weakest precondition of a program on device `c`. -/
abbrev WP (c : Dev nD) (p : Pr F) (Q : PUnit.{1} → sProp 𝕄) : sProp 𝕄 :=
  wp frame (wpE (defs₀ (F := F)) 𝒱₀ (c : Thread nD τ) none) Set.univ p Q

/-- What a device owes, with whatever it has waited for. -/
def owing (c : Dev nD) (O : Owed) : sProp 𝕄 := iprop(∃ W, owes (c : Thread nD τ) O W)

/-! ## The cells, all of them, known to every device -/

/-- The cells of a device: its barrier, its copy, its sends and receives, its credits. -/
abbrev OI : Type := Unit ⊕ (Bool × Bool × Fin 14) ⊕ (Bool × Fin 2)
/-- A device's cells: its barrier and its own semaphores. -/
abbrev CI : Type := Unit ⊕ OI
instance decOI : DecidableEq OI := inferInstance
instance decCI : DecidableEq CI := inferInstance

/-- The semaphore of each of its own, -/
def osem : OI → SemLoc sig
  | .inl _ => .dma copyS
  | .inr (.inl (true, b, k)) => .dma (sN b k.val)
  | .inr (.inl (false, b, k)) => .dma (rN b k.val)
  | .inr (.inr (b, p)) => .reg (cN b p.val)
/-- and of every cell. -/
def csem : CI → SemLoc sig
  | .inl _ => .reg barrier0
  | .inr i => osem i
/-- A cell on a device. -/
abbrev kcell (ck : Dev nD × CI) : GSem nD τ sig := ((ck.1 : Thread nD τ), csem ck.2)

/-- A cell is run by the schedule. -/
def run (g : GSem nD τ sig) : sProp 𝕄 := iprop(∃ κ : ℕ, cellInv ER (Rd (F := F) m) κ g)
instance run_persistent (g : GSem nD τ sig) : BI.Persistent (run (F := F) m g) := by unfold run; infer_instance

/-- Every cell of every device is run by the schedule and has reached its first round. -/
def recs : sProp 𝕄 := bigSep (Finset.univ : Finset (Dev nD × CI)) fun ck => iprop(run m (kcell ck) ∗ reached ER (kcell ck) 0)
instance recs_persistent : BI.Persistent (recs (F := F) m) := by unfold recs; infer_instance

/-- What is known of all cells gives each one's record: -/
theorem recs_cell (ck : Dev nD × CI) : recs (F := F) m ⊢ iprop(run m (kcell ck) ∗ reached ER (kcell ck) 0) := by
  unfold recs; exact bigSep_elim (Finset.mem_univ ck)
/-- the barrier's, -/
theorem recs_bar (c : Dev nD) : recs (F := F) m ⊢ iprop(run m (barC c) ∗ reached ER (barC c) 0) := recs_cell m (c, .inl ())
/-- the input copy's, -/
theorem recs_copy (c : Dev nD) : recs (F := F) m ⊢ iprop(run m (copyC c) ∗ reached ER (copyC c) 0) := recs_cell m (c, .inr (.inl ()))
/-- a send's, -/
theorem recs_send (b : Bool) {k : ℕ} (hk : k < 14) (c : Dev nD) : recs (F := F) m ⊢ iprop(run m (sendC b k c) ∗ reached ER (sendC b k c) 0) :=
  recs_cell m (c, .inr (.inr (.inl (true, b, ⟨k, hk⟩))))
/-- an arrival's, -/
theorem recs_recv (b : Bool) {k : ℕ} (hk : k < 14) (c : Dev nD) : recs (F := F) m ⊢ iprop(run m (recvC b k c) ∗ reached ER (recvC b k c) 0) :=
  recs_cell m (c, .inr (.inr (.inl (false, b, ⟨k, hk⟩))))
/-- (a credit semaphore is that of its slot) -/
theorem cN_mod (b : Bool) (p : ℕ) : cN b (p % 2) = cN b p := by unfold cN; simp only [Nat.mod_mod]
/-- and a credit's. -/
theorem recs_cred (b : Bool) (p : ℕ) (c : Dev nD) : recs (F := F) m ⊢ iprop(run m (credC b p c) ∗ reached ER (credC b p c) 0) := by
  have h := recs_cell (F := F) m (c, .inr (.inr (.inr (b, ⟨p % 2, Nat.mod_lt _ (by decide)⟩))))
  rwa [show kcell (c, .inr (.inr (.inr (b, ⟨p % 2, Nat.mod_lt _ (by decide)⟩)))) = credC b p c by
    show ((c : Thread nD τ), SemLoc.reg (cN b (p % 2))) = _; rw [cN_mod]] at h

/-! ## One operation at a time -/

/-- Sending step `k`'s chunk: it and what goes with it leave, the receiver's semaphore is owed no longer. -/
theorem wp_opSend {Q : PUnit.{1} → sProp 𝕄} (b : Bool) {k : ℕ} (hk : k < 14) (c : Dev nD) {src D : Chunk} {n : Dev nD} {s r : DmaSem sig} {hs : src.view.WordExact} {hd : D.view.WordExact}
    (h₁ : src = ch b k c) (h₂ : D = dst b k (nx b c)) (h₃ : n = nx b c) (h₄ : s = sN b k) (h₅ : r = rN b k) (O : Owed) :
    iprop(recs m ∗ holds c (ch b k c) (V m b k c) ∗ any (nx b c) (dst b k (nx b c)) ∗ extra b k c
        ∗ owing c (O + tallyAt (recvC b k (nx b c)) 0 N)
        ∗ dutyTok ER (sendC b k c) 0 false ∗ dutyTok ER (recvC b k (nx b c)) 0 false
        ∗ ((cred (tallyAt (sendC b k c) 0 N) ∗ owing c O) -∗ Q ⟨⟩))
      ⊢ WP c (opSend src D n s r hs hd) Q := by
  subst h₁ h₂ h₃ h₄ h₅
  unfold opSend holds any owing
  iintro ⟨#HR, ⟨%f, %hf, Hs⟩, ⟨%fd, Hd⟩, He, ⟨%W, HO⟩, Ht1, Ht2, Hk⟩
  ihave #H1 := (recs_send m b hk c) $$ HR
  ihave #H2 := (recs_recv m b hk (nx b c)) $$ HR
  unfold run
  icases H1 with ⟨⟨%κ₁, #HI1⟩, #Hr1⟩
  icases H2 with ⟨⟨%κ₂, #HI2⟩, #Hr2⟩
  iapply (Rounds.wp_send_pointsTo_with 𝒱₀ ER (Rd m) (c : Thread nD τ) none (κ₁ := κ₁) (κ₂ := κ₂)
    (r₁ := 0) (r₂ := 0) (d₁ := false) (d₂ := false) (fd := fd) (F := extra b k c)
    (by rw [duties_send m c b hk]; exact Finset.mem_singleton_self _) (by rw [duties_recv m _ b hk]; exact Finset.mem_singleton_self _)
    0 0 N (by exact amount_dst b k (nx b c)) (amount_send m c b hk false) (amount_recv m (nx b c) b hk false) O rfl (W := W)
    (by
      rw [payload_send m c b hk]; unfold holds
      iintro H; iexists f; isplitr
      · ipureintro; exact hf
      · iexact H)
    (by
      rw [payload_recv m (nx b c) b hk]; unfold recvPay holds; rw [pv_nx]
      iintro ⟨H, HF⟩; isplitl [H]
      · iexists _; isplitr
        rotate_left
        · iexact H
        · ipureintro; rw [View.read_write_univ]; exact hf
      · iexact HF)) $$ [Hs Hd He HO Ht1 Ht2]
  · isplitr; · iexact HI1
    isplitr; · iexact HI2
    isplitl [Hs]; · iexact Hs
    isplitl [Hd He]
    · isplitl [Hd]; · iexact Hd
      iexact He
    isplitl [HO]; · iexact HO
    isplitl [Ht1]; · iexact Ht1
    isplitr; · iexact Hr1
    isplitl [Ht2]; · iexact Ht2
    iexact Hr2
  iintro ⟨Hc, HO⟩
  rw [wp_ret]; imodintro
  iapply Hk
  isplitl [Hc]; · iexact Hc
  iexists W; iexact HO

/-- Waiting on a cell with one duty, which then closes. -/
theorem wp_wait_one {Q : PUnit.{1} → sProp 𝕄} (c : Dev nD) {s : DmaSem sig} {sp sp' : Space} {sh : Shape} {src : Memref sig .tc sp sh .f32} {D : Memref sig .tc sp' sh .f32}
    {hs : src.view.WordExact} {hd : D.view.WordExact} {a : ℕ} (hD : D.view.dmaCredit = a)
    (hexp : (Rd (F := F) m).expect ((c : Thread nD τ), .dma s) 0 = a)
    (hlater : ∀ r, 1 ≤ r → (Rd (F := F) m).duties ((c : Thread nD τ), .dma s) r = ∅) {P : sProp 𝕄}
    (hrest : bigSep ((Rd (F := F) m).duties ((c : Thread nD τ), .dma s) 0 \ ∅) (fun d => (Rd (F := F) m).payload ((c : Thread nD τ), .dma s) 0 d) = P)
    {O : Owed} {n : ℕ} (hl : lv ((c : Thread nD τ), .dma s) 0 < n) (H : Low n O) :
    iprop(run m ((c : Thread nD τ), .dma s) ∗ levAts L lv ∗ cred (tallyAt ((c : Thread nD τ), .dma s) 0 a) ∗ owing c O ∗ atPos ER ((c : Thread nD τ), .dma s) 0 ∅ 0
        ∗ ((owing c O ∗ semVal ((c : Thread nD τ), .dma s) 0 ∗ P) -∗ Q ⟨⟩))
      ⊢ WP c (.op (.waitDma2 s src D hs hd) .ret) Q := by
  subst hrest hD
  unfold run owing
  iintro ⟨⟨%κ, #HI⟩, #Hlev, Hc, ⟨%W, HO⟩, Hat, Hk⟩
  iapply (Rounds.wp_wait_rest_token 𝒱₀ ER (Rd m) (c : Thread nD τ) none (κ := κ)
      (wpE_waitDma2_eq 𝒱₀ (c : Thread nD τ) none Set.univ) (Set.mem_univ _) 0 (O := O) (W := W) (R := 0) (m := 0) (T := ∅)
      (by rw [Nat.zero_add, hexp])) $$ [Hc HO Hat]
  · isplitr; · iexact HI
    isplitl [Hc]; · iexact Hc
    isplitl [HO]; · iexact HO
    isplitr; · iapply (mayWait (c := c) (sm := .dma s) (by decide) hl H); iexact Hlev
    iexact Hat
  iintro ⟨HO, Hat, -, Hpay⟩
  imod (Rounds.cell_close ER (Rd m) (Set.mem_univ κ) (fun h => h) (R := 0 + 1) hlater) $$ [Hat] with Hz
  · isplitr; · iexact HI
    iexact Hat
  rw [wp_ret]; imodintro
  iapply Hk
  isplitl [HO]; · iexists _; iexact HO
  isplitl [Hz] <;> iassumption

/-- The wait for the end of a send gives the chunk sent back. -/
theorem wp_waitSend {Q : PUnit.{1} → sProp 𝕄} (b : Bool) {k : ℕ} (hk : k < 14) (c : Dev nD) {s : DmaSem sig} {src D : Chunk} {hs : src.view.WordExact} {hd : D.view.WordExact}
    (h₁ : s = sN b k) (hD : D.view.dmaCredit = N) {O : Owed} {n : ℕ} (H : Low (n + 1) O) :
    iprop(recs m ∗ levAts L lv ∗ cred (tallyAt (sendC b k c) 0 N) ∗ owing c O ∗ atPos ER (sendC b k c) 0 ∅ 0
        ∗ ((owing c O ∗ semVal (sendC b k c) 0 ∗ holds c (ch b k c) (V m b k c)) -∗ Q ⟨⟩))
      ⊢ WP c (opWait s src D hs hd) Q := by
  subst h₁; unfold opWait
  iintro ⟨#HR, Hrest⟩
  ihave #H1 := (recs_send m b hk c) $$ HR
  icases H1 with ⟨#H1, -⟩
  iapply (wp_wait_one m c hD (expect_send m c b hk) (duties_later m c _ (by rw [role_send b hk]; intro _ _ h; cases h)) (rest_send m c b hk) (by rw [lv_send b hk]; exact Nat.succ_pos n) H)
  isplitr; · iexact H1
  iexact Hrest

/-- The wait for an arrival gives what landed. -/
theorem wp_waitRecv {Q : PUnit.{1} → sProp 𝕄} (b : Bool) {k : ℕ} (hk : k < 14) (c : Dev nD) {s : DmaSem sig} {src D : Chunk} {hs : src.view.WordExact} {hd : D.view.WordExact}
    (h₁ : s = rN b k) (hD : D.view.dmaCredit = N) {O : Owed} (H : Low (10 * k + 15) O) :
    iprop(recs m ∗ levAts L lv ∗ cred (tallyAt (recvC b k c) 0 N) ∗ owing c O ∗ atPos ER (recvC b k c) 0 ∅ 0
        ∗ ((owing c O ∗ semVal (recvC b k c) 0 ∗ recvPay m b k c) -∗ Q ⟨⟩))
      ⊢ WP c (opWait s src D hs hd) Q := by
  subst h₁; unfold opWait
  iintro ⟨#HR, Hrest⟩
  ihave #H1 := (recs_recv m b hk c) $$ HR
  icases H1 with ⟨#H1, -⟩
  iapply (wp_wait_one m c hD (expect_recv m c b hk) (duties_later m c _ (by rw [role_recv b hk]; intro _ _ h; cases h)) (rest_recv m c b hk) (by rw [lv_recv b hk]; omega) H)
  isplitr; · iexact H1
  iexact Hrest

/-- Signalling: a cell's duty is paid with its payload. -/
theorem wp_signal_one {Q : PUnit.{1} → sProp 𝕄} (c n : Dev nD) {s : Sem sig} {r : ℕ} {d : Bool} {P : sProp 𝕄} (hd : d ∈ (Rd (F := F) m).duties ((n : Thread nD τ), .reg s) r)
    (ha : (Rd (F := F) m).amount ((n : Thread nD τ), .reg s) r d = 1) (hp : (Rd (F := F) m).payload ((n : Thread nD τ), .reg s) r d = P) (ι : ℕ) (O : Owed) :
    iprop(run m ((n : Thread nD τ), .reg s) ∗ owing c (O + tallyAt ((n : Thread nD τ), .reg s) ι 1) ∗ dutyTok ER ((n : Thread nD τ), .reg s) r d ∗ P
        ∗ reached ER ((n : Thread nD τ), .reg s) r ∗ (owing c O -∗ Q ⟨⟩))
      ⊢ WP c (opSignal n s) Q := by
  subst hp
  unfold run owing opSignal semSignalWord
  iintro ⟨⟨%κ, #HI⟩, ⟨%W, HO⟩, Ht, HP, Hr, Hk⟩
  iapply (Rounds.wp_signal 𝒱₀ ER (Rd m) (c : Thread nD τ) none (dst := (n : Thread nD τ)) (κ := κ) (d := d) (r := r) hd (ha.trans (by decide)) ι O rfl)
    $$ [HO Ht HP Hr]
  · isplitr; · iexact HI
    isplitl [HO]; · iexact HO
    isplitl [Ht]; · iexact Ht
    isplitl [HP] <;> iassumption
  iintro HO
  rw [wp_ret]; imodintro
  iapply Hk; iexists W; iexact HO

/-- Handing slot `k` back to the neighbour it was filled from. -/
theorem wp_giveSlot {Q : PUnit.{1} → sProp 𝕄} (b : Bool) {k : ℕ} (hk : k ≤ 4) (c : Dev nD) {n : Dev nD} {s : Sem sig} (h₁ : n = pv b c) (h₂ : s = cN b k) (O : Owed) :
    iprop(recs m ∗ owing c (O + tallyAt (credC b k (pv b c)) k 1) ∗ dutyTok ER (credC b k (pv b c)) (k / 2) false ∗ any c (slotN b k)
        ∗ reached ER (credC b k (pv b c)) (k / 2) ∗ (owing c O -∗ Q ⟨⟩))
      ⊢ WP c (opSignal n s) Q := by
  subst h₁ h₂
  iintro ⟨#HR, Hrest⟩
  ihave #H1 := (recs_cred m b k (pv b c)) $$ HR
  icases H1 with ⟨#H1, -⟩
  iapply (wp_signal_one m c (pv b c) (r := k / 2) (d := false) (by rw [duties_cred m (pv b c) b hk]; exact Finset.mem_singleton_self _)
    (amount_cred m (pv b c) b k _ false) ((payload_cred m (pv b c) b k (k / 2) false).trans (by rw [nx_pv])) k O)
  isplitr; · iexact H1
  iexact Hrest

/-- Waiting for the slot of step `k` to come back. -/
theorem wp_takeSlot {Q : PUnit.{1} → sProp 𝕄} (b : Bool) {k : ℕ} (hk : k ≤ 4) (c : Dev nD) {s : Sem sig} (h₁ : s = cN b k) {O : Owed} (H : Low (10 * k + 21) O) :
    iprop(recs m ∗ levAts L lv ∗ cred (tallyAt (credC b k c) k 1) ∗ owing c O ∗ atPos ER (credC b k c) (k / 2) ∅ 0
        ∗ ((owing c O ∗ atPos ER (credC b k c) (k / 2 + 1) ∅ 0 ∗ reached ER (credC b k c) (k / 2 + 1) ∗ any (nx b c) (slotN b k)) -∗ Q ⟨⟩))
      ⊢ WP c (opCredit s) Q := by
  subst h₁
  unfold owing opCredit semWaitWord
  iintro ⟨#HR, #Hlev, Hc, ⟨%W, HO⟩, Hat, Hk⟩
  ihave #H1 := (recs_cred m b k c) $$ HR
  unfold run
  icases H1 with ⟨⟨%κ, #HI⟩, -⟩
  iapply (Rounds.wp_wait_rest_token 𝒱₀ ER (Rd m) (c : Thread nD τ) none (κ := κ)
      (wpE_semWait_eq 𝒱₀ (c : Thread nD τ) none Set.univ) (Set.mem_univ _) k (O := O) (W := W) (R := k / 2) (m := 0) (T := ∅)
      (by rw [expect_cred m c b hk]; decide)) $$ [Hc HO Hat]
  · isplitr; · iexact HI
    isplitl [Hc]; · iexact Hc
    isplitl [HO]; · iexact HO
    isplitr; · iapply (mayWait (c := c) (sm := .reg (cN b k)) (by omega) (by rw [lv_cred]; omega) H); iexact Hlev
    iexact Hat
  iintro ⟨HO, Hat, Hr, Hpay⟩
  ihave Hp := (Entails.of_eq (rest_cred m c b hk)) $$ Hpay
  rw [wp_ret]; imodintro
  iapply Hk
  isplitl [HO]; · iexists _; iexact HO
  isplitl [Hat]; · iexact Hat
  isplitl [Hr] <;> iassumption

/-! ## The addition -/

/-- The printed sum is the chunk and the slot, its leading axis dropped, added. -/
theorem paySum_eq (o : Vec F S256x2048 .f32) (w : Vec F S1x256x2048 .f32) : paySum o w = addf o (shapeCast S256x2048 w shapeCasts_S1x256x2048_S256x2048) := by
  show addf (shapeCast S256x2048 o shapeCasts_S256x2048_S256x2048) _ = _
  rw [shapeCast_self]

/-- Adding what a slot holds to a chunk of the output. -/
theorem wp_opAdd {Q : PUnit.{1} → sProp 𝕄} (b : Bool) (q : Fin 8) (p : Fin 2) (c : Dev nD) (x w : Vec F S256x2048 .f32)
    (hoff : ∀ a, (![512 * q.val + (if b then 0 else 256), 0] : Fin 2 → Nat) a + S256x2048.size a ≤ S4096x2048.size a)
    (hp : ∀ a, (![p.val, 0, 0] : Fin 3 → Nat) a + S1x256x2048.size a ≤ S2x256x2048.size a) :
    iprop(holds c (chunk b q) x ∗ holds c (slot b p) w ∗ ((holds c (chunk b q) (addf x w) ∗ any c (slot b p)) -∗ Q ⟨⟩))
      ⊢ WP c (opAdd (comm b) ![512 * q.val + (if b then 0 else 256), 0] p hoff hp) Q := by
  unfold opAdd holds any
  iintro ⟨⟨%f, %hf, Ho⟩, ⟨%g, %hg, Hs⟩, Hk⟩
  simp only [Prog.bind_op, Prog.bind_ret]
  iapply (wp_load_rect 𝒱₀ (c : Thread nD τ) none Set.univ (m := Memref.whole cc0_stg0_0) (r := Rect.unit (s := S4096x2048) ![512 * q.val + (if b then 0 else 256), 0] S256x2048.size hoff) (S := (chunk b q).view.set) (Finset.Subset.refl _)) $$ Ho
  iintro Ho
  iapply (wp_load_rect 𝒱₀ (c : Thread nD τ) none Set.univ (m := comm b) (r := Rect.unit (s := S2x256x2048) ![p.val, 0, 0] S1x256x2048.size hp) (S := (slot b p).view.set) (by rw [View.set_reshape])) $$ Hs
  iintro Hs
  iapply (wp_load_rect 𝒱₀ (c : Thread nD τ) none Set.univ (m := Memref.whole cc0_stg0_0) (r := Rect.unit (s := S4096x2048) ![512 * q.val + (if b then 0 else 256), 0] S256x2048.size hoff) (S := (chunk b q).view.set) (Finset.Subset.refl _)) $$ Ho
  iintro Ho
  iapply (wp_store 𝒱₀ (c : Thread nD τ) none Set.univ (m := Memref.whole cc0_stg0_0) (r := Rect.unit (s := S4096x2048) ![512 * q.val + (if b then 0 else 256), 0] S256x2048.size hoff) (S := (chunk b q).view.set) (by rw [View.setOn_univ])) $$ Ho
  iintro Ho
  rw [wp_ret]; imodintro
  iapply Hk
  isplitl [Ho]
  · iexists _; isplitr
    rotate_left
    · iexact Ho
    · ipureintro
      refine (View.read_write_univ ..).trans ?_
      rw [paySum_eq, ← hf, ← hg]
      rfl
  · iexists g; iexact Hs

end Cert.KernelIdeal.AllReduce
end
-- ==== Proof.Phases.lean ====
/-
The steps of the two phases: what a device holds between them, and that each step keeps it.
-/
module

public import proofs.«01_k».proof.Proof.Steps

@[expose] public section

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

omit [FloatOps F] in
/-- The first index of an interval, taken out; the last; nothing. -/
theorem peel_bot {a n : ℕ} (h : a < n) (Φ : ℕ → sProp 𝕄) : bigSep (Finset.Ico a n) Φ = iprop(Φ a ∗ bigSep (Finset.Ico (a + 1) n) Φ) := by
  rw [show Finset.Ico a n = insert a (Finset.Ico (a + 1) n) by ext j; simp only [Finset.mem_insert, Finset.mem_Ico]; omega]
  exact bigSep_insert (by simp only [Finset.mem_Ico]; omega)
omit [FloatOps F] in
/-- The last member of a conjunction over an interval. -/
theorem peel_top {a n : ℕ} (h : a ≤ n) (Φ : ℕ → sProp 𝕄) : bigSep (Finset.Ico a (n + 1)) Φ = iprop(Φ n ∗ bigSep (Finset.Ico a n) Φ) := by
  rw [show Finset.Ico a (n + 1) = insert n (Finset.Ico a n) by ext j; simp only [Finset.mem_insert, Finset.mem_Ico]; omega]
  exact bigSep_insert (by simp only [Finset.mem_Ico]; omega)
omit [FloatOps F] in
/-- Nothing over an empty one. -/
theorem peel_none (a : ℕ) (Φ : ℕ → sProp 𝕄) : bigSep (Finset.Ico a a) Φ = iprop(emp) := by rw [Finset.Ico_self]; rfl

/-! ## What a device holds between steps, of one direction -/

/-- What pays step `k`; what waits for it; what its waits leave. -/
def pays (b : Bool) (c : Dev nD) (k : ℕ) : sProp 𝕄 := iprop(dutyTok ER (sendC b k c) 0 false ∗ dutyTok ER (recvC b k (nx b c)) 0 false)
/-- The places of the waits that are still to come, and what is due to them. -/
def waits (b : Bool) (c : Dev nD) (k : ℕ) : sProp 𝕄 :=
  iprop(cred (tallyAt (recvC b k c) 0 N) ∗ atPos ER (sendC b k c) 0 ∅ 0 ∗ atPos ER (recvC b k c) 0 ∅ 0)
/-- A step's two cells, closed at zero. -/
def closed (b : Bool) (c : Dev nD) (k : ℕ) : sProp 𝕄 := iprop(semVal (sendC b k c) 0 ∗ semVal (recvC b k c) 0)

/-- The chunk sent the step before, to give away with the other direction's step `k`; what an arrival of step `k` brings
    so: a chunk of the sender's output to send into. -/
def old (b : Bool) (c : Dev nD) (k : ℕ) : sProp 𝕄 := if 1 ≤ k ∧ k ≤ 7 then any c (ch b (k - 1) c) else iprop(emp)
/-- What the arrival of step `k` brings besides the chunk: the sender's chunk of the other half. -/
abbrev gain (b : Bool) (c : Dev nD) (k : ℕ) : sProp 𝕄 := old (!b) (pv b c) k

/-- A chunk still holding the device's input; a chunk holding its final value. -/
abbrev fut (b : Bool) (c : Dev nD) (j : ℕ) : sProp 𝕄 := holds c (ch b j c) (xch m b (bk b j c) c)
/-- The chunk of step `j` at the value it has then. -/
abbrev cur (b : Bool) (c : Dev nD) (j : ℕ) : sProp 𝕄 := holds c (ch b j c) (V m b j c)

/-- Before step `k`, in either phase. -/
def dirSt (b : Bool) (c : Dev nD) (k : ℕ) : sProp 𝕄 :=
  iprop(cur m b c k ∗ old b c k ∗ bigSep (Finset.Ico k 14) (pays b c) ∗ bigSep (Finset.Ico k 14) (waits b c) ∗ bigSep (Finset.Ico 0 k) (closed b c))
/-- Before reduce-scatter step `k`; before all-gather step `k`. -/
def rsSt (b : Bool) (c : Dev nD) (k : ℕ) : sProp 𝕄 := iprop(dirSt m b c k ∗ bigSep (Finset.Ico (k + 1) 8) (fut m b c) ∗ bigSep (Finset.Ico 0 k) (gain b c))
/-- What a device holds in one direction before all-gather step `k`. -/
def agSt (b : Bool) (c : Dev nD) (k : ℕ) : sProp 𝕄 := iprop(dirSt m b c k ∗ bigSep (Finset.Ico 7 k) (cur m b c) ∗ bigSep (Finset.Ico (k - 6) k) (gain b c))

/-- The reduce-scatter's end is the all-gather's start. -/
theorem ag_of_rs (b : Bool) (c : Dev nD) : rsSt m b c 7 ⊢ agSt m b c 7 := by
  unfold rsSt agSt
  rw [peel_none 7, peel_bot (by decide : 0 < 7) (gain b c)]
  iintro ⟨H, -, -, Hg⟩
  isplitl [H]; · iexact H
  isplitr; · iempintro
  iexact Hg

/-- What a sender adds to a chunk: the chunk it is done with, and the mark of its credit cell; -/
theorem extra_eq (b : Bool) (k : ℕ) (c : Dev nD) :
    extra (F := F) b k c = iprop(old (!b) c k ∗ (if k < 7 then reached ER (credC b k c) (k / 2) else iprop(emp))) := rfl

/-- in the reduce-scatter both, -/
theorem extra_rs (b : Bool) {k : ℕ} (c : Dev nD) (hk : k < 7) :
    extra (F := F) b k c = iprop(old (!b) c k ∗ reached ER (credC b k c) (k / 2)) := by rw [extra_eq, if_pos hk]
/-- in the all-gather no mark. -/
theorem extra_ag (b : Bool) {k : ℕ} (c : Dev nD) (hk : 7 ≤ k) :
    extra (F := F) b k c = iprop(old (!b) c k ∗ emp) := by rw [extra_eq, if_neg (by omega)]

/-- A chunk gained earlier is where an all-gather step of the other direction lands. -/
theorem gain_dst (b : Bool) (c : Dev nD) {k : ℕ} (h7 : 7 ≤ k) (hk : k < 14) : gain (F := F) (!b) c (k - 6) ⊢ any (nx b c) (dst b k (nx b c)) := by
  unfold gain old dst
  rw [if_pos ⟨by omega, by omega⟩, if_neg (by omega)]
  have e : ch b (k + 1) (nx b c) = ch b (k - 6 - 1) (nx b c) := by
    rw [show k + 1 = (k - 6 - 1) + 8 by omega]; unfold ch; rw [bk_add_eight]
  rw [e]
  cases b <;> exact Entails.refl _

/-! ## One direction's waits of a step -/

/-- A reduce-scatter step adds the device's input to what has come, -/
theorem V_rs (b : Bool) {k : ℕ} (hk : k < 7) (c : Dev nD) : V m b (k + 1) c = addf (xch m b (bk b (k + 1) c) c) (V m b k (pv b c)) := by
  rw [V, if_pos hk]
/-- an all-gather step passes on what has come. -/
theorem V_ag (b : Bool) {k : ℕ} (hk : 7 ≤ k) (c : Dev nD) : V m b (k + 1) c = V m b k (pv b c) := by rw [V, if_neg (by omega)]

/-- The end of a reduce-scatter step in one direction: the chunk sent is back, the chunk received has been added. -/
theorem wp_rsFin {Q : PUnit.{1} → sProp 𝕄} (b : Bool) (h : Fin 7) (c : Dev nD) {s r : DmaSem sig} {A B A' B' : Chunk}
    {hs : A.view.WordExact} {hd : B.view.WordExact} {hs' : A'.view.WordExact} {hd' : B'.view.WordExact}
    (h₁ : s = sN b h.val) (h₂ : r = rN b h.val) (hB : B.view.dmaCredit = N) (hB' : B'.view.dmaCredit = N) {O : Owed} (H : Low (10 * h.val + 15) O) :
    iprop(recs m ∗ levAts L lv ∗ cred (tallyAt (sendC b h.val c) 0 N) ∗ waits b c h.val ∗ fut m b c (h.val + 1) ∗ owing c O
        ∗ ((owing c O ∗ closed b c h.val ∗ cur m b c h.val ∗ cur m b c (h.val + 1) ∗ any c (slotN b h.val) ∗ extra b h.val (pv b c)) -∗ Q ⟨⟩))
      ⊢ WP c (opWait s A B hs hd) (fun _ => WP c (opWait r A' B' hs' hd') (fun _ => WP c (rsAdd b c h (par h)) Q)) := by
  have hk : h.val < 14 := by omega
  unfold waits
  iintro ⟨#HR, #Hlev, Hc, ⟨Hc', Hs, Hr⟩, Hf, HO, Hk⟩
  iapply (wp_waitSend m b hk c h₁ hB H)
  isplitr; · iexact HR
  isplitr; · iexact Hlev
  isplitl [Hc]; · iexact Hc
  isplitl [HO]; · iexact HO
  isplitl [Hs]; · iexact Hs
  iintro ⟨HO, Hzs, Hsent⟩
  iapply (wp_waitRecv m b hk c h₂ hB' H)
  isplitr; · iexact HR
  isplitr; · iexact Hlev
  isplitl [Hc']; · iexact Hc'
  isplitl [HO]; · iexact HO
  isplitl [Hr]; · iexact Hr
  unfold recvPay dst
  rw [if_pos h.isLt]
  iintro ⟨HO, Hzr, Hgot, Hex⟩
  rw [rsAdd_eq]
  unfold fut
  iapply (wp_opAdd b (bk b (h.val + 1) c) (par h) c (xch m b (bk b (h.val + 1) c) c) (V m b h.val (pv b c)) (inbChunk b _) (inbSlot _))
  isplitl [Hf]; · iexact Hf
  isplitl [Hgot]; · iexact Hgot
  iintro ⟨Hnew, Hslot⟩
  iapply Hk
  unfold closed cur
  isplitl [HO]; · iexact HO
  isplitl [Hzs Hzr]
  · isplitl [Hzs] <;> iassumption
  isplitl [Hsent]; · iexact Hsent
  isplitl [Hnew]
  · rw [V_rs m b h.isLt]; iexact Hnew
  isplitl [Hslot] <;> iassumption

/-- The end of an all-gather step in one direction: the chunk sent is back, the next one has arrived. -/
theorem wp_agFin {Q : PUnit.{1} → sProp 𝕄} (b : Bool) {k : ℕ} (h7 : 7 ≤ k) (hk : k < 14) (c : Dev nD) {s r : DmaSem sig} {A B A' B' : Chunk}
    {hs : A.view.WordExact} {hd : B.view.WordExact} {hs' : A'.view.WordExact} {hd' : B'.view.WordExact}
    (h₁ : s = sN b k) (h₂ : r = rN b k) (hB : B.view.dmaCredit = N) (hB' : B'.view.dmaCredit = N) {O : Owed} (H : Low (10 * k + 15) O) :
    iprop(recs m ∗ levAts L lv ∗ cred (tallyAt (sendC b k c) 0 N) ∗ waits b c k ∗ owing c O
        ∗ ((owing c O ∗ closed b c k ∗ cur m b c k ∗ cur m b c (k + 1) ∗ extra b k (pv b c)) -∗ Q ⟨⟩))
      ⊢ WP c (opWait s A B hs hd) (fun _ => WP c (opWait r A' B' hs' hd') Q) := by
  unfold waits
  iintro ⟨#HR, #Hlev, Hc, ⟨Hc', Hs, Hr⟩, HO, Hk⟩
  iapply (wp_waitSend m b hk c h₁ hB H)
  isplitr; · iexact HR
  isplitr; · iexact Hlev
  isplitl [Hc]; · iexact Hc
  isplitl [HO]; · iexact HO
  isplitl [Hs]; · iexact Hs
  iintro ⟨HO, Hzs, Hsent⟩
  iapply (wp_waitRecv m b hk c h₂ hB' H)
  isplitr; · iexact HR
  isplitr; · iexact Hlev
  isplitl [Hc']; · iexact Hc'
  isplitl [HO]; · iexact HO
  isplitl [Hr]; · iexact Hr
  unfold recvPay dst
  rw [if_neg (by omega)]
  iintro ⟨HO, Hzr, Hgot, Hex⟩
  iapply Hk
  unfold closed cur
  isplitl [HO]; · iexact HO
  isplitl [Hzs Hzr]
  · isplitl [Hzs] <;> iassumption
  isplitl [Hsent]; · iexact Hsent
  isplitl [Hgot]
  · rw [V_ag m b h7]; iexact Hgot
  iexact Hex

/-! ## Whole steps -/

/-- The slots a device may send into at step `k`; those it has emptied; that its credit cells have come to that round;
    that its neighbours' have. -/
def slots (c : Dev nD) (k : ℕ) : sProp 𝕄 := iprop(any (nx true c) (slotN true k) ∗ any (nx false c) (slotN false k))
/-- A step's two slots, free again. -/
def emptied (c : Dev nD) (k : ℕ) : sProp 𝕄 := iprop(any c (slotN true k) ∗ any c (slotN false k))
/-- The marks of a device's own credit cells at step `k`, -/
def marks (c : Dev nD) (k : ℕ) : sProp 𝕄 := iprop(reached ER (credC true k c) (k / 2) ∗ reached ER (credC false k c) (k / 2))
/-- and of its neighbours'. -/
def theirs (c : Dev nD) (k : ℕ) : sProp 𝕄 := iprop(reached ER (credC true k (pv true c)) (k / 2) ∗ reached ER (credC false k (pv false c)) (k / 2))

/-- The state after one direction's step, from its parts. -/
theorem dir_next (b : Bool) (c : Dev nD) {k : ℕ} (hk : k < 14) :
    iprop(cur m b c (k + 1) ∗ old b c (k + 1) ∗ bigSep (Finset.Ico (k + 1) 14) (pays b c) ∗ bigSep (Finset.Ico (k + 1) 14) (waits b c)
        ∗ bigSep (Finset.Ico 0 k) (closed b c) ∗ closed b c k) ⊢ dirSt m b c (k + 1) := by
  unfold dirSt
  rw [peel_top (Nat.zero_le k) (closed b c)]
  iintro ⟨H1, H2, H3, H4, H5, H6⟩
  isplitl [H1]; · iexact H1
  isplitl [H2]; · iexact H2
  isplitl [H3]; · iexact H3
  isplitl [H4]; · iexact H4
  isplitl [H6] <;> iassumption

/-- After its arrival a reduce-scatter step's state is the next step's. -/
theorem rs_next (b : Bool) (c : Dev nD) {k : ℕ} (hk : k < 7) :
    iprop(cur m b c k ∗ cur m b c (k + 1) ∗ bigSep (Finset.Ico (k + 1) 14) (pays b c) ∗ bigSep (Finset.Ico (k + 1) 14) (waits b c)
        ∗ bigSep (Finset.Ico 0 k) (closed b c) ∗ closed b c k ∗ bigSep (Finset.Ico (k + 1 + 1) 8) (fut m b c) ∗ bigSep (Finset.Ico 0 k) (gain b c) ∗ gain b c k)
      ⊢ rsSt m b c (k + 1) := by
  unfold rsSt
  rw [peel_top (Nat.zero_le k) (gain b c)]
  iintro ⟨H0, H1, H3, H4, H5, H6, H7, H8, H9⟩
  isplitl [H0 H1 H3 H4 H5 H6]
  · iapply (dir_next m b c (by omega))
    isplitl [H1]; · iexact H1
    isplitl [H0]
    · unfold old; rw [if_pos ⟨by omega, by omega⟩]; unfold cur
      iapply (any_of_holds c (ch b k c) _); iexact H0
    isplitl [H3]; · iexact H3
    isplitl [H4]; · iexact H4
    isplitl [H5] <;> iassumption
  isplitl [H7]; · iexact H7
  isplitl [H9] <;> iassumption

/-- The same for an all-gather step. -/
theorem ag_next (b : Bool) (c : Dev nD) {k : ℕ} (h7 : 7 ≤ k) (hk : k < 14) :
    iprop(cur m b c k ∗ cur m b c (k + 1) ∗ bigSep (Finset.Ico (k + 1) 14) (pays b c) ∗ bigSep (Finset.Ico (k + 1) 14) (waits b c)
        ∗ bigSep (Finset.Ico 0 k) (closed b c) ∗ closed b c k ∗ bigSep (Finset.Ico 7 k) (cur m b c) ∗ bigSep (Finset.Ico (k - 6 + 1) k) (gain b c) ∗ gain b c k)
      ⊢ agSt m b c (k + 1) := by
  unfold agSt
  rw [peel_top h7 (cur m b c), show k + 1 - 6 = k - 6 + 1 by omega, peel_top (by omega) (gain b c)]
  iintro ⟨H0, H1, H3, H4, H5, H6, H7, H8, H9⟩
  isplitl [H1 H3 H4 H5 H6]
  · iapply (dir_next m b c (by omega))
    isplitl [H1]; · iexact H1
    isplitr
    · unfold old; rw [if_neg (by omega)]; iempintro
    isplitl [H3]; · iexact H3
    isplitl [H4]; · iexact H4
    isplitl [H5] <;> iassumption
  isplitl [H0 H7]
  · isplitl [H0] <;> iassumption
  isplitl [H9] <;> iassumption

/-- The parts of a state a step touches. -/
theorem rs_open (b : Bool) (c : Dev nD) {k : ℕ} (hk : k < 7) :
    rsSt m b c k ⊢ iprop(cur m b c k ∗ old b c k ∗ (dutyTok ER (sendC b k c) 0 false ∗ dutyTok ER (recvC b k (nx b c)) 0 false) ∗ bigSep (Finset.Ico (k + 1) 14) (pays b c)
      ∗ waits b c k ∗ bigSep (Finset.Ico (k + 1) 14) (waits b c) ∗ bigSep (Finset.Ico 0 k) (closed b c)
      ∗ fut m b c (k + 1) ∗ bigSep (Finset.Ico (k + 1 + 1) 8) (fut m b c) ∗ bigSep (Finset.Ico 0 k) (gain b c)) := by
  unfold rsSt dirSt
  rw [peel_bot (by omega : k < 14) (pays b c), peel_bot (by omega : k < 14) (waits b c), peel_bot (by omega : k + 1 < 8) (fut m b c)]
  iintro ⟨⟨H1, H2, ⟨H3, H4⟩, ⟨H5, H6⟩, H7⟩, ⟨H8, H9⟩, H10⟩
  isplitl [H1]; · iexact H1
  isplitl [H2]; · iexact H2
  isplitl [H3]; · unfold pays; iexact H3
  isplitl [H4]; · iexact H4
  isplitl [H5]; · iexact H5
  isplitl [H6]; · iexact H6
  isplitl [H7]; · iexact H7
  isplitl [H8]; · iexact H8
  isplitl [H9] <;> iassumption
/-- What an all-gather step sends, where it lands, and the rest. -/
theorem ag_open (b : Bool) (c : Dev nD) {k : ℕ} (h7 : 7 ≤ k) (hk : k < 14) :
    agSt m b c k ⊢ iprop(cur m b c k ∗ old b c k ∗ (dutyTok ER (sendC b k c) 0 false ∗ dutyTok ER (recvC b k (nx b c)) 0 false) ∗ bigSep (Finset.Ico (k + 1) 14) (pays b c)
      ∗ waits b c k ∗ bigSep (Finset.Ico (k + 1) 14) (waits b c) ∗ bigSep (Finset.Ico 0 k) (closed b c)
      ∗ bigSep (Finset.Ico 7 k) (cur m b c) ∗ gain b c (k - 6) ∗ bigSep (Finset.Ico (k - 6 + 1) k) (gain b c)) := by
  unfold agSt dirSt
  rw [peel_bot hk (pays b c), peel_bot hk (waits b c), peel_bot (by omega : k - 6 < k) (gain b c)]
  iintro ⟨⟨H1, H2, ⟨H3, H4⟩, ⟨H5, H6⟩, H7⟩, H8, ⟨H9, H10⟩⟩
  isplitl [H1]; · iexact H1
  isplitl [H2]; · iexact H2
  isplitl [H3]; · unfold pays; iexact H3
  isplitl [H4]; · iexact H4
  isplitl [H5]; · iexact H5
  isplitl [H6]; · iexact H6
  isplitl [H7]; · iexact H7
  isplitl [H8]; · iexact H8
  isplitl [H9] <;> iassumption

/-- A reduce-scatter step. -/
theorem wp_rsMid {Q : PUnit.{1} → sProp 𝕄} (h : Fin 7) (c : Dev nD) :
    iprop(recs m ∗ levAts L lv ∗ rsSt m true c h.val ∗ rsSt m false c h.val ∗ slots c h.val ∗ marks c h.val ∗ owing c (Orest c h.val)
        ∗ ((rsSt m true c (h.val + 1) ∗ rsSt m false c (h.val + 1) ∗ emptied c h.val ∗ theirs c h.val ∗ owing c (Omid c h.val)) -∗ Q ⟨⟩))
      ⊢ WP c (rsMid c h) Q := by
  have hk : h.val < 14 := by omega
  have hd : ∀ b d, dst b h.val d = slot b (par h) := fun b d => by unfold dst; rw [if_pos h.isLt]
  unfold rsMid slots marks
  simp only [wp_bind]
  rw [Orest_peel c hk]
  iintro ⟨#HR, #Hlev, H1, H2, ⟨Hs1, Hs2⟩, ⟨#Hm1, #Hm2⟩, HO, Hk⟩
  ihave H1 := (rs_open m true c h.isLt) $$ H1
  ihave H2 := (rs_open m false c h.isLt) $$ H2
  icases H1 with ⟨Hc1, Ho1, ⟨Ht1, Hu1⟩, Hp1, Hw1, Hws1, Hz1, Hf1, Hfs1, Hg1⟩
  icases H2 with ⟨Hc2, Ho2, ⟨Ht2, Hu2⟩, Hp2, Hw2, Hws2, Hz2, Hf2, Hfs2, Hg2⟩
  iapply (wp_opSend m true hk c (rsOut_eq true c h) (hd true _).symm (nxRaw_eq true c) (sendS_eq true (rsIx h)) (recvS_eq true (rsIx h)) _)
  isplitr; · iexact HR
  isplitl [Hc1]; · iexact Hc1
  isplitl [Hs1]; · rw [hd]; iexact Hs1
  isplitl [Ho2]
  · rw [extra_eq, if_pos h.isLt]; isplitl [Ho2]; · iexact Ho2
    iexact Hm1
  isplitl [HO]; · iexact HO
  isplitl [Ht1]; · iexact Ht1
  isplitl [Hu1]; · iexact Hu1
  iintro ⟨Hcs1, HO⟩
  iapply (wp_opSend m false hk c (rsOut_eq false c h) (hd false _).symm (nxRaw_eq false c) (sendS_eq false (rsIx h)) (recvS_eq false (rsIx h)) _)
  isplitr; · iexact HR
  isplitl [Hc2]; · iexact Hc2
  isplitl [Hs2]; · rw [hd]; iexact Hs2
  isplitl [Ho1]
  · rw [extra_eq, if_pos h.isLt]; isplitl [Ho1]; · iexact Ho1
    iexact Hm2
  isplitl [HO]; · iexact HO
  isplitl [Ht2]; · iexact Ht2
  isplitl [Hu2]; · iexact Hu2
  iintro ⟨Hcs2, HO⟩
  iapply (wp_rsFin m true h c (sendS_eq true (rsIx h)) (recvS_eq true (rsIx h)) (by rw [rsOut_eq]; exact amount_chunk _ _) (amount_slot _ _) (low_mid c h.val))
  isplitr; · iexact HR
  isplitr; · iexact Hlev
  isplitl [Hcs1]; · iexact Hcs1
  isplitl [Hw1]; · iexact Hw1
  isplitl [Hf1]; · iexact Hf1
  isplitl [HO]; · iexact HO
  iintro ⟨HO, Hx1, Hb1, Hn1, He1, Hex1⟩
  iapply (wp_rsFin m false h c (sendS_eq false (rsIx h)) (recvS_eq false (rsIx h)) (by rw [rsOut_eq]; exact amount_chunk _ _) (amount_slot _ _) (low_mid c h.val))
  isplitr; · iexact HR
  isplitr; · iexact Hlev
  isplitl [Hcs2]; · iexact Hcs2
  isplitl [Hw2]; · iexact Hw2
  isplitl [Hf2]; · iexact Hf2
  isplitl [HO]; · iexact HO
  iintro ⟨HO, Hx2, Hb2, Hn2, He2, Hex2⟩
  ihave Hex1 := (Entails.of_eq (extra_rs true (pv true c) h.isLt)) $$ Hex1
  ihave Hex2 := (Entails.of_eq (extra_rs false (pv false c) h.isLt)) $$ Hex2
  icases Hex1 with ⟨Hy1, Hr1⟩
  icases Hex2 with ⟨Hy2, Hr2⟩
  iapply Hk
  isplitl [Hb1 Hn1 Hp1 Hws1 Hz1 Hx1 Hfs1 Hg1 Hy1]
  · iapply (rs_next m true c h.isLt)
    isplitl [Hb1]; · iexact Hb1
    isplitl [Hn1]; · iexact Hn1
    isplitl [Hp1]; · iexact Hp1
    isplitl [Hws1]; · iexact Hws1
    isplitl [Hz1]; · iexact Hz1
    isplitl [Hx1]; · iexact Hx1
    isplitl [Hfs1]; · iexact Hfs1
    isplitl [Hg1]; · iexact Hg1
    iexact Hy1
  isplitl [Hb2 Hn2 Hp2 Hws2 Hz2 Hx2 Hfs2 Hg2 Hy2]
  · iapply (rs_next m false c h.isLt)
    isplitl [Hb2]; · iexact Hb2
    isplitl [Hn2]; · iexact Hn2
    isplitl [Hp2]; · iexact Hp2
    isplitl [Hws2]; · iexact Hws2
    isplitl [Hz2]; · iexact Hz2
    isplitl [Hx2]; · iexact Hx2
    isplitl [Hfs2]; · iexact Hfs2
    isplitl [Hg2]; · iexact Hg2
    iexact Hy2
  unfold emptied theirs
  isplitl [He1 He2]
  · isplitl [He1] <;> iassumption
  isplitl [Hr1 Hr2]
  · isplitl [Hr1] <;> iassumption
  iexact HO

/-- An all-gather step. -/
theorem wp_agMid {Q : PUnit.{1} → sProp 𝕄} (h : Fin 7) (c : Dev nD) :
    iprop(recs m ∗ levAts L lv ∗ agSt m true c (7 + h.val) ∗ agSt m false c (7 + h.val) ∗ owing c (Orest c (7 + h.val))
        ∗ ((agSt m true c (7 + h.val + 1) ∗ agSt m false c (7 + h.val + 1) ∗ owing c (Orest c (7 + h.val + 1))) -∗ Q ⟨⟩))
      ⊢ WP c (agMid c h) Q := by
  have hk : 7 + h.val < 14 := by omega
  have h7 : 7 ≤ 7 + h.val := by omega
  have hd : ∀ b, agOut b c h = dst b (7 + h.val) (nx b c) := fun b => by
    unfold dst; rw [if_neg (by omega), agOut_eq]; unfold ch; rw [bk_nx]
  have hN : ∀ b, (agOut b c h).view.dmaCredit = N := fun b => by rw [agOut_eq]; exact amount_chunk _ _
  unfold agMid
  simp only [wp_bind]
  rw [Orest_peel c hk, ← Omid_of_gt c (by omega : 4 < 7 + h.val)]
  iintro ⟨#HR, #Hlev, H1, H2, HO, Hk⟩
  ihave H1 := (ag_open m true c h7 hk) $$ H1
  ihave H2 := (ag_open m false c h7 hk) $$ H2
  icases H1 with ⟨Hc1, Ho1, ⟨Ht1, Hu1⟩, Hp1, Hw1, Hws1, Hz1, Hf1, Ha1, Hg1⟩
  icases H2 with ⟨Hc2, Ho2, ⟨Ht2, Hu2⟩, Hp2, Hw2, Hws2, Hz2, Hf2, Ha2, Hg2⟩
  iapply (wp_opSend m true hk c (agOut_eq true c h) (hd true) (nxRaw_eq true c) (sendS_eq true (agIx h)) (recvS_eq true (agIx h)) _)
  isplitr; · iexact HR
  isplitl [Hc1]; · iexact Hc1
  isplitl [Ha2]; · iapply (gain_dst true c h7 hk); iexact Ha2
  isplitl [Ho2]
  · rw [extra_eq, if_neg (by omega)]; isplitl [Ho2]; · iexact Ho2
    iempintro
  isplitl [HO]; · iexact HO
  isplitl [Ht1]; · iexact Ht1
  isplitl [Hu1]; · iexact Hu1
  iintro ⟨Hcs1, HO⟩
  iapply (wp_opSend m false hk c (agOut_eq false c h) (hd false) (nxRaw_eq false c) (sendS_eq false (agIx h)) (recvS_eq false (agIx h)) _)
  isplitr; · iexact HR
  isplitl [Hc2]; · iexact Hc2
  isplitl [Ha1]; · iapply (gain_dst false c h7 hk); iexact Ha1
  isplitl [Ho1]
  · rw [extra_eq, if_neg (by omega)]; isplitl [Ho1]; · iexact Ho1
    iempintro
  isplitl [HO]; · iexact HO
  isplitl [Ht2]; · iexact Ht2
  isplitl [Hu2]; · iexact Hu2
  iintro ⟨Hcs2, HO⟩
  iapply (wp_agFin m true h7 hk c (sendS_eq true (agIx h)) (recvS_eq true (agIx h)) (hN true) (hN true) (low_mid c (7 + h.val)))
  isplitr; · iexact HR
  isplitr; · iexact Hlev
  isplitl [Hcs1]; · iexact Hcs1
  isplitl [Hw1]; · iexact Hw1
  isplitl [HO]; · iexact HO
  iintro ⟨HO, Hx1, Hb1, Hn1, Hex1⟩
  iapply (wp_agFin m false h7 hk c (sendS_eq false (agIx h)) (recvS_eq false (agIx h)) (hN false) (hN false) (low_mid c (7 + h.val)))
  isplitr; · iexact HR
  isplitr; · iexact Hlev
  isplitl [Hcs2]; · iexact Hcs2
  isplitl [Hw2]; · iexact Hw2
  isplitl [HO]; · iexact HO
  iintro ⟨HO, Hx2, Hb2, Hn2, Hex2⟩
  ihave Hex1 := (Entails.of_eq (extra_ag true (pv true c) h7)) $$ Hex1
  ihave Hex2 := (Entails.of_eq (extra_ag false (pv false c) h7)) $$ Hex2
  icases Hex1 with ⟨Hy1, -⟩
  icases Hex2 with ⟨Hy2, -⟩
  iapply Hk
  isplitl [Hb1 Hn1 Hp1 Hws1 Hz1 Hx1 Hf1 Hg1 Hy1]
  · iapply (ag_next m true c h7 hk)
    isplitl [Hb1]; · iexact Hb1
    isplitl [Hn1]; · iexact Hn1
    isplitl [Hp1]; · iexact Hp1
    isplitl [Hws1]; · iexact Hws1
    isplitl [Hz1]; · iexact Hz1
    isplitl [Hx1]; · iexact Hx1
    isplitl [Hf1]; · iexact Hf1
    isplitl [Hg1]; · iexact Hg1
    iexact Hy1
  isplitl [Hb2 Hn2 Hp2 Hws2 Hz2 Hx2 Hf2 Hg2 Hy2]
  · iapply (ag_next m false c h7 hk)
    isplitl [Hb2]; · iexact Hb2
    isplitl [Hn2]; · iexact Hn2
    isplitl [Hp2]; · iexact Hp2
    isplitl [Hws2]; · iexact Hws2
    isplitl [Hz2]; · iexact Hz2
    isplitl [Hx2]; · iexact Hx2
    isplitl [Hf2]; · iexact Hf2
    isplitl [Hg2]; · iexact Hg2
    iexact Hy2
  iexact HO

end Cert.KernelIdeal.AllReduce
end
-- ==== Proof.Turns.lean ====
/-
The credits between the reduce-scatter steps, and the entry.
-/
module

public import proofs.«01_k».proof.Proof.Phases

@[expose] public section

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## Credits -/

/-- What hands slot `k` back, in both directions; what the wait for its return takes; a device's place at its credit
    cells once it may use slot `k` again. -/
def handing (c : Dev nD) (k : ℕ) : sProp 𝕄 :=
  iprop(dutyTok ER (credC true k (pv true c)) (k / 2) false ∗ dutyTok ER (credC false k (pv false c)) (k / 2) false)
/-- The credits that a step has coming, -/
def takes (c : Dev nD) (k : ℕ) : sProp 𝕄 := iprop(cred (tallyAt (credC true k c) k 1) ∗ cred (tallyAt (credC false k c) k 1))
/-- and its place at their cells. -/
def place (c : Dev nD) (k : ℕ) : sProp 𝕄 := iprop(atPos ER (credC true k c) (k / 2) ∅ 0 ∗ atPos ER (credC false k c) (k / 2) ∅ 0)

/-- Two steps on come back to the same credit semaphore, -/
theorem cN_two (b : Bool) (j : ℕ) : cN b (j + 2) = cN b j := by
  rw [← cN_mod b (j + 2), ← cN_mod b j, Nat.add_mod_right]
/-- the same credit cell, -/
theorem credC_two (b : Bool) (j : ℕ) (c : Dev nD) : credC b (j + 2) c = credC b j c := by unfold credC; rw [cN_two]
/-- one round later, -/
theorem half_two (j : ℕ) : (j + 2) / 2 = j / 2 + 1 := by omega
/-- and the same slot. -/
theorem slotN_two (b : Bool) (j : ℕ) : slotN b (j + 2) = slotN b j := by
  have h : ∀ a a' : Fin 2, a = a' → slot b a = slot b a' := fun _ _ e => by rw [e]
  exact h _ _ (Fin.ext (Nat.add_mod_right _ _))

/-- The printed credit semaphore of a step. -/
theorem credS_par (b : Bool) (h : Fin 7) : credS b (par h) = cN b h.val := (credS_eq b (par h)).trans (cN_mod b h.val)

/-- Handing out the credits of step `h`. -/
theorem wp_rsPost {Q : PUnit.{1} → sProp 𝕄} (h : Fin 7) (h4 : h.val ≤ 4) (c : Dev nD) :
    iprop(recs m ∗ emptied c h.val ∗ theirs c h.val ∗ handing c h.val ∗ owing c (Omid c h.val) ∗ (owing c (Orest c (h.val + 1)) -∗ Q ⟨⟩))
      ⊢ WP c (rsPost c h) Q := by
  unfold rsPost emptied theirs handing
  simp only [wp_bind]
  rw [Omid_peel c h4]
  iintro ⟨#HR, ⟨He1, He2⟩, ⟨Ht1, Ht2⟩, ⟨Hg1, Hg2⟩, HO, Hk⟩
  iapply (wp_giveSlot m true h4 c (nxRaw_eq false c) (credS_par true h) _)
  isplitr; · iexact HR
  isplitl [HO]; · iexact HO
  isplitl [Hg1]; · iexact Hg1
  isplitl [He1]; · iexact He1
  isplitl [Ht1]; · iexact Ht1
  iintro HO
  iapply (wp_giveSlot m false h4 c (nxRaw_eq true c) (credS_par false h) _)
  isplitr; · iexact HR
  isplitl [HO]; · iexact HO
  isplitl [Hg2]; · iexact Hg2
  isplitl [He2]; · iexact He2
  isplitl [Ht2]; · iexact Ht2
  iexact Hk

/-- Waiting for the credits step `h` needs, those of step `j = h - 2`. -/
theorem wp_rsPre {Q : PUnit.{1} → sProp 𝕄} (h : Fin 7) {j : ℕ} (hj : h.val = j + 2) (c : Dev nD) :
    iprop(recs m ∗ levAts L lv ∗ takes c j ∗ place c j ∗ owing c (Orest c (j + 2))
        ∗ ((slots c (j + 2) ∗ marks c (j + 2) ∗ place c (j + 2) ∗ owing c (Orest c (j + 2))) -∗ Q ⟨⟩))
      ⊢ WP c (rsPre h) Q := by
  have hj4 : j ≤ 4 := by omega
  have hl : Low (10 * j + 21) (Orest c (j + 2)) := (low_rest c (j + 2)).mono (by omega)
  have hs : ∀ b, credS b (par h) = cN b j := fun b => by rw [credS_par, hj, cN_two]
  unfold rsPre takes place slots marks
  simp only [wp_bind, credC_two, half_two, slotN_two]
  iintro ⟨#HR, #Hlev, ⟨Hc1, Hc2⟩, ⟨Ha1, Ha2⟩, HO, Hk⟩
  iapply (wp_takeSlot m true hj4 c (hs true) hl)
  isplitr; · iexact HR
  isplitr; · iexact Hlev
  isplitl [Hc1]; · iexact Hc1
  isplitl [HO]; · iexact HO
  isplitl [Ha1]; · iexact Ha1
  iintro ⟨HO, Ha1, Hr1, Hs1⟩
  iapply (wp_takeSlot m false hj4 c (hs false) hl)
  isplitr; · iexact HR
  isplitr; · iexact Hlev
  isplitl [Hc2]; · iexact Hc2
  isplitl [HO]; · iexact HO
  isplitl [Ha2]; · iexact Ha2
  iintro ⟨HO, Ha2, Hr2, Hs2⟩
  iapply Hk
  isplitl [Hs1 Hs2]
  · isplitl [Hs1] <;> iassumption
  isplitl [Hr1 Hr2]
  · isplitl [Hr1] <;> iassumption
  isplitl [Ha1 Ha2]
  · isplitl [Ha1] <;> iassumption
  iexact HO

/-! ## Between steps -/

/-- What a device holds before reduce-scatter step `k`, besides slots; before all-gather step `k`. -/
def RS (c : Dev nD) (k : ℕ) : sProp 𝕄 := iprop(rsSt m true c k ∗ rsSt m false c k ∗ owing c (Orest c k))
/-- The same before all-gather step `k`. -/
def AG (c : Dev nD) (k : ℕ) : sProp 𝕄 := iprop(agSt m true c k ∗ agSt m false c k ∗ owing c (Orest c k))

/-- The first two steps' marks are the cells' first rounds. -/
theorem marks_start (c : Dev nD) {k : ℕ} (hk : k < 2) : recs (F := F) m ⊢ marks c k := by
  unfold marks
  rw [show k / 2 = 0 by omega]
  iintro #HR
  ihave #H1 := (recs_cred m true k c) $$ HR
  ihave #H2 := (recs_cred m false k c) $$ HR
  icases H1 with ⟨-, #H1⟩
  icases H2 with ⟨-, #H2⟩
  isplitr; · iexact H1
  iexact H2

/-- A step that hands its slots back. -/
theorem wp_rsGive {Q : PUnit.{1} → sProp 𝕄} (h : Fin 7) (h4 : h.val ≤ 4) (c : Dev nD) :
    iprop(recs m ∗ levAts L lv ∗ RS m c h.val ∗ slots c h.val ∗ marks c h.val ∗ bigSep (Finset.Ico h.val 5) (handing c)
        ∗ ((RS m c (h.val + 1) ∗ bigSep (Finset.Ico (h.val + 1) 5) (handing c)) -∗ Q ⟨⟩))
      ⊢ WP c (rsMid c h) (fun _ => WP c (rsPost c h) Q) := by
  unfold RS
  rw [peel_bot (by omega : h.val < 5) (handing c)]
  iintro ⟨#HR, #Hlev, ⟨H1, H2, HO⟩, Hs, Hm, ⟨Hg, Hgs⟩, Hk⟩
  iapply (wp_rsMid m h c)
  isplitr; · iexact HR
  isplitr; · iexact Hlev
  isplitl [H1]; · iexact H1
  isplitl [H2]; · iexact H2
  isplitl [Hs]; · iexact Hs
  isplitl [Hm]; · iexact Hm
  isplitl [HO]; · iexact HO
  iintro ⟨H1, H2, He, Ht, HO⟩
  iapply (wp_rsPost m h h4 c)
  isplitr; · iexact HR
  isplitl [He]; · iexact He
  isplitl [Ht]; · iexact Ht
  isplitl [Hg]; · iexact Hg
  isplitl [HO]; · iexact HO
  iintro HO
  iapply Hk
  isplitl [H1 H2 HO]
  · isplitl [H1]; · iexact H1
    isplitl [H2] <;> iassumption
  iexact Hgs

/-- A step that keeps its slots. -/
theorem wp_rsKeep {Q : PUnit.{1} → sProp 𝕄} (h : Fin 7) (h4 : 4 < h.val) (c : Dev nD) :
    iprop(recs m ∗ levAts L lv ∗ RS m c h.val ∗ slots c h.val ∗ marks c h.val ∗ ((RS m c (h.val + 1) ∗ emptied c h.val) -∗ Q ⟨⟩))
      ⊢ WP c (rsMid c h) Q := by
  unfold RS
  iintro ⟨#HR, #Hlev, ⟨H1, H2, HO⟩, Hs, Hm, Hk⟩
  iapply (wp_rsMid m h c)
  isplitr; · iexact HR
  isplitr; · iexact Hlev
  isplitl [H1]; · iexact H1
  isplitl [H2]; · iexact H2
  isplitl [Hs]; · iexact Hs
  isplitl [Hm]; · iexact Hm
  isplitl [HO]; · iexact HO
  rw [Omid_of_gt c h4]
  iintro ⟨H1, H2, He, -, HO⟩
  iapply Hk
  isplitl [H1 H2 HO]
  · isplitl [H1]; · iexact H1
    isplitl [H2] <;> iassumption
  iexact He

/-- The waits before a step. -/
theorem wp_rsTake {Q : PUnit.{1} → sProp 𝕄} (h : Fin 7) {j : ℕ} (hj : h.val = j + 2) (c : Dev nD) :
    iprop(recs m ∗ levAts L lv ∗ RS m c (j + 2) ∗ bigSep (Finset.Ico j 5) (takes c) ∗ place c j
        ∗ ((RS m c (j + 2) ∗ slots c (j + 2) ∗ marks c (j + 2) ∗ place c (j + 2) ∗ bigSep (Finset.Ico (j + 1) 5) (takes c)) -∗ Q ⟨⟩))
      ⊢ WP c (rsPre h) Q := by
  unfold RS
  rw [peel_bot (by omega : j < 5) (takes c)]
  iintro ⟨#HR, #Hlev, ⟨H1, H2, HO⟩, ⟨Ht, Hts⟩, Hp, Hk⟩
  iapply (wp_rsPre m h hj c)
  isplitr; · iexact HR
  isplitr; · iexact Hlev
  isplitl [Ht]; · iexact Ht
  isplitl [Hp]; · iexact Hp
  isplitl [HO]; · iexact HO
  iintro ⟨Hs, Hm, Hp, HO⟩
  iapply Hk
  isplitl [H1 H2 HO]
  · isplitl [H1]; · iexact H1
    isplitl [H2] <;> iassumption
  isplitl [Hs]; · iexact Hs
  isplitl [Hm]; · iexact Hm
  isplitl [Hp] <;> iassumption

/-- An all-gather step. -/
theorem wp_agTurn {Q : PUnit.{1} → sProp 𝕄} (h : Fin 7) (c : Dev nD) :
    iprop(recs m ∗ levAts L lv ∗ AG m c (7 + h.val) ∗ (AG m c (7 + h.val + 1) -∗ Q ⟨⟩)) ⊢ WP c (agMid c h) Q := by
  unfold AG
  iintro ⟨#HR, #Hlev, ⟨H1, H2, HO⟩, Hk⟩
  iapply (wp_agMid m h c)
  isplitr; · iexact HR
  isplitr; · iexact Hlev
  isplitl [H1]; · iexact H1
  isplitl [H2]; · iexact H2
  isplitl [HO]; · iexact HO
  iexact Hk

/-! ## The entry -/

/-- A chunk of the output pays a neighbour: what direction `d` of a barrier cell is handed. -/
theorem barPay_intro (d : Bool) (c : Dev nD) : iprop(any (F := F) c (slot d 0) ∗ any c (slot d 1)) ⊢ barPay d (pv d c) := by
  unfold barPay; rw [nx_pv]

/-- A copy over the whole output leaves what was copied. -/
theorem oMem_write (f fd : (cc0_stg0_0 : Ref sig .tc).ty.Contents (Elt F)) : oMem.view.write (Elt F) fd f Finset.univ = f := by
  have h : oMem.view.read (Elt F) (oMem.view.write (Elt F) fd f Finset.univ) = f := View.read_write_univ ..
  exact h

/-- The entry: the output holds the input, both neighbours' slots may be sent into. -/
theorem wp_entry {Q : PUnit.{1} → sProp 𝕄} (c : Dev nD) :
    iprop(recs m ∗ levAts L lv
        ∗ (xMem.view.loc (c : Thread nD τ) ↦[xMem.view.set]{fullShare} m ((c : Thread nD τ).loc main_arg0))
        ∗ (∃ f, oMem.view.loc (c : Thread nD τ) ↦[oMem.view.set]{fullShare} f)
        ∗ (any c (slot true 0) ∗ any c (slot true 1)) ∗ (any c (slot false 0) ∗ any c (slot false 1))
        ∗ dutyTok ER (copyC c) 0 false ∗ dutyTok ER (barC (pv true c)) 0 true ∗ dutyTok ER (barC (pv false c)) 0 false
        ∗ atPos ER (copyC c) 0 ∅ 0 ∗ atPos ER (barC c) 0 ∅ 0 ∗ cred (tallyAt (barC c) 0 2) ∗ owing c (O₀ c)
        ∗ ((owing c (Orest c 0) ∗ semVal (barC c) 0 ∗ semVal (copyC c) 0
            ∗ (xMem.view.loc (c : Thread nD τ) ↦[xMem.view.set]{fullShare} m ((c : Thread nD τ).loc main_arg0))
            ∗ (oMem.view.loc (c : Thread nD τ) ↦[oMem.view.set]{fullShare} xin m c) ∗ slots c 0 ∗ slots c 1) -∗ Q ⟨⟩))
      ⊢ WP c (entry c) Q := by
  unfold entry O₀
  simp only [wp_bind]
  iintro ⟨#HR, #Hlev, Hx, ⟨%fd, Ho⟩, Hs1, Hs2, Htc, Ht1, Ht2, Hac, Hab, Hcb, HO, Hk⟩
  ihave #Hcell := (recs_copy m c) $$ HR
  icases Hcell with ⟨#HIc, #Hrc⟩
  ihave #Hcell := (recs_bar m c) $$ HR
  icases Hcell with ⟨#HIb, -⟩
  ihave #Hcell := (recs_bar m (pv true c)) $$ HR
  icases Hcell with ⟨#HI1, #Hr1⟩
  ihave #Hcell := (recs_bar m (pv false c)) $$ HR
  icases Hcell with ⟨#HI2, #Hr2⟩
  ihave #HIc' := (show run (F := F) m (copyC c) ⊢ iprop(∃ κ : ℕ, cellInv ER (Rd (F := F) m) κ (copyC c)) from Entails.refl _) $$ HIc
  icases HIc' with ⟨%κ, #HIc'⟩
  iapply (Rounds.wp_copy_pointsTo 𝒱₀ ER (Rd m) (c : Thread nD τ) none (κ := κ) (r := 0) (d := false) (fd := fd) (q := fullShare)
    (fs := m ((c : Thread nD τ).loc main_arg0))
    (by rw [duties_copy]; exact Finset.mem_singleton_self _) 0 NC (by exact amount_out) (amount_copy m c false)
    (by
      rw [payload_copy]; unfold copyPay
      iintro ⟨H1, H2⟩
      isplitl [H2]; · iexact H2
      iapply (Entails.of_eq (congrArg (fun f => (oMem.view.loc (c : Thread nD τ) ↦[oMem.view.set]{fullShare} f : sProp 𝕄)) (oMem_write (xin m c) fd)))
      iexact H1)) $$ [Hx Ho Htc]
  · isplitr; · iexact HIc'
    isplitl [Hx]; · iexact Hx
    isplitl [Ho]; · iexact Ho
    isplitl [Htc]; · iexact Htc
    iexact Hrc
  iintro Hcc
  rw [wp_ret]; imodintro
  rw [nxRaw_eq, nxRaw_eq]
  iapply (wp_signal_one m c (nx false c) (r := 0) (d := true) (by rw [duties_bar]; exact Finset.mem_univ _) (amount_bar m _ _) (payload_bar m _ _) 0 _)
  isplitr; · iexact HI1
  isplitl [HO]; · iexact HO
  isplitl [Ht1]; · iexact Ht1
  isplitl [Hs1]; · iapply (barPay_intro true c); iexact Hs1
  isplitr; · iexact Hr1
  iintro HO
  iapply (wp_signal_one m c (nx true c) (r := 0) (d := false) (by rw [duties_bar]; exact Finset.mem_univ _) (amount_bar m _ _) (payload_bar m _ _) 0 _)
  isplitr; · iexact HI2
  isplitl [HO]; · iexact HO
  isplitl [Ht2]; · iexact Ht2
  isplitl [Hs2]; · iapply (barPay_intro false c); iexact Hs2
  isplitr; · iexact Hr2
  iintro HO
  unfold semWaitWord
  ihave #HIb' := (show run (F := F) m (barC c) ⊢ iprop(∃ κ : ℕ, cellInv ER (Rd (F := F) m) κ (barC c)) from Entails.refl _) $$ HIb
  icases HIb' with ⟨%κb, #HIb'⟩
  ihave HO' := (show owing (F := F) c (Orest c 0) ⊢ iprop(∃ W, owes (c : Thread nD τ) (Orest c 0) W) from Entails.refl _) $$ HO
  icases HO' with ⟨%W, HO⟩
  iapply (Rounds.wp_wait_rest_token 𝒱₀ ER (Rd m) (c : Thread nD τ) none (κ := κb)
      (wpE_semWait_eq 𝒱₀ (c : Thread nD τ) none Set.univ) (Set.mem_univ _) 0 (O := Orest c 0) (W := W) (R := 0) (m := 0) (T := ∅)
      (by rw [expect_bar]; decide)) $$ [Hcb HO Hab]
  · isplitr; · iexact HIb'
    isplitl [Hcb]; · iexact Hcb
    isplitl [HO]; · iexact HO
    isplitr; · iapply (mayWait (c := c) (sm := .reg barrier0) (by decide) (by rw [lv_bar]; decide) (low_rest c 0)); iexact Hlev
    iexact Hab
  iintro ⟨HO, Hab, -, Hpay⟩
  ihave Hp := (Entails.of_eq (rest_bar m c)) $$ Hpay
  icases Hp with ⟨Hp1, Hp2⟩
  imod (Rounds.cell_close ER (Rd m) (Set.mem_univ κb) (fun h => h) (R := 0 + 1)
    (duties_later m c (.reg barrier0) (by rw [role_bar]; intro _ _ h; cases h))) $$ [Hab] with Hzb
  · isplitr; · iexact HIb'
    iexact Hab
  rw [wp_ret]; imodintro
  iapply (wp_wait_one m c amount_out (expect_copy m c) (duties_later m c _ (by rw [role_copy]; intro _ _ h; cases h)) (rest_copy m c)
    (by rw [lv_copy]; decide) (low_rest c 0))
  isplitr; · iexact HIc
  isplitr; · iexact Hlev
  isplitl [Hcc]; · iexact Hcc
  isplitl [HO]
  · iapply (show iprop(∃ W, owes (c : Thread nD τ) (Orest c 0) W) ⊢ owing (F := F) c (Orest c 0) from Entails.refl _)
    iexists _; iexact HO
  isplitl [Hac]; · iexact Hac
  unfold copyPay slots barPay slotN
  iintro ⟨HO, Hzc, Hx, Ho⟩
  icases Hp1 with ⟨Ha0, Ha1⟩
  icases Hp2 with ⟨Hb0, Hb1⟩
  iapply Hk
  isplitl [HO]; · iexact HO
  isplitl [Hzb]; · iexact Hzb
  isplitl [Hzc]; · iexact Hzc
  isplitl [Hx]; · iexact Hx
  isplitl [Ho]; · iexact Ho
  isplitl [Ha0 Hb0]
  · isplitl [Ha0]; · iexact Ha0
    iexact Hb0
  isplitl [Ha1]; · iexact Ha1
  iexact Hb1

end Cert.KernelIdeal.AllReduce
end
-- ==== Proof.Buffers.lean ====
/-
The buffers cut into chunks and put back together.
-/
module

public import proofs.«01_k».proof.Proof.Turns
public import Idealize.ShloMosaic.Lib.Ring

@[expose] public section

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## Where the chunks lie -/

/-- The block an index of the output lies in; its half of it (`true`: the upper one); its place in that half. -/
def blockOf (i : S4096x2048.Idx) : Fin 8 := ⟨(i 0).val / 512, by have h : (i 0).val < 4096 := (i 0).isLt; omega⟩
/-- The half of its block (`true`: the upper one). -/
def halfOf (i : S4096x2048.Idx) : Bool := decide ((i 0).val % 512 < 256)
/-- The place in that half. -/
def placeOf (i : S4096x2048.Idx) : S256x2048.Idx := fun a => match a with
  | ⟨0, _⟩ => ⟨(i 0).val % 256, Nat.mod_lt _ (by decide)⟩
  | ⟨1, _⟩ => ⟨(i 1).val, (i 1).isLt⟩

/-- An index of a chunk, in the output. -/
def atChunk (b : Bool) (q : Fin 8) (x : S256x2048.Idx) : S4096x2048.Idx :=
  (Rect.unit (s := S4096x2048) ![512 * q.val + (if b then 0 else 256), 0] S256x2048.size (inbChunk b q)).emb x

/-- The row of a chunk's index in the output. -/
theorem atChunk_row (b : Bool) (q : Fin 8) (x : S256x2048.Idx) : (atChunk b q x 0).val = 512 * q.val + (if b then 0 else 256) + (x 0).val := by
  unfold atChunk; rw [Rect.emb_apply]
  show 512 * q.val + (if b then 0 else 256) + 1 * (x 0).val = _
  omega
/-- Its column is the chunk's own. -/
theorem atChunk_col (b : Bool) (q : Fin 8) (x : S256x2048.Idx) : (atChunk b q x 1).val = (x 1).val := by
  unfold atChunk; rw [Rect.emb_apply]
  show 0 + 1 * (x 1).val = _
  omega

/-- A chunk has 256 rows. -/
theorem row_lt (x : S256x2048.Idx) : (x 0).val < 256 := (x 0).isLt

/-- An index of block `q`'s chunk lies in block `q`, -/
theorem blockOf_at (b : Bool) (q : Fin 8) (x : S256x2048.Idx) : blockOf (atChunk b q x) = q := by
  apply Fin.ext; have h := row_lt x; have e := atChunk_row b q x
  unfold blockOf; dsimp only; rw [e]; cases b <;> (simp only [if_true, Bool.false_eq_true, if_false]; omega)
/-- in the chunk's half, -/
theorem halfOf_at (b : Bool) (q : Fin 8) (x : S256x2048.Idx) : halfOf (atChunk b q x) = b := by
  have h := row_lt x; have e := atChunk_row b q x
  unfold halfOf; rw [e]
  cases b
  · simp only [Bool.false_eq_true, if_false]; exact decide_eq_false (by omega)
  · simp only [if_true]; exact decide_eq_true (by omega)
/-- at its own place. -/
theorem placeOf_at (b : Bool) (q : Fin 8) (x : S256x2048.Idx) : placeOf (atChunk b q x) = x := by
  have h := row_lt x; have e := atChunk_row b q x
  funext a
  match a with
  | ⟨0, _⟩ =>
    apply Fin.ext; show (atChunk b q x 0).val % 256 = (x 0).val; rw [e]
    cases b <;> (simp only [if_true, Bool.false_eq_true, if_false]; omega)
  | ⟨1, _⟩ => apply Fin.ext; exact atChunk_col b q x
/-- Every index of the output is the one at its place in its half of its block. -/
theorem at_placeOf (i : S4096x2048.Idx) : atChunk (halfOf i) (blockOf i) (placeOf i) = i := by
  funext a
  match a with
  | ⟨0, _⟩ =>
    apply Fin.ext
    refine (atChunk_row _ _ _).trans ?_
    show 512 * ((i 0).val / 512) + (if halfOf i = true then 0 else 256) + (i 0).val % 256 = (i 0).val
    unfold halfOf
    by_cases h : (i 0).val % 512 < 256
    · rw [decide_eq_true h, if_pos rfl]; omega
    · rw [decide_eq_false h, if_neg (by decide)]; omega
  | ⟨1, _⟩ => apply Fin.ext; exact atChunk_col _ _ _

/-- A chunk of an array reads the array at the chunk's indices. -/
theorem read_chunk (b : Bool) (q : Fin 8) (f : Vec F S4096x2048 .f32) (x : S256x2048.Idx) : (chunk b q).view.read (Elt F) f x = f (atChunk b q x) := rfl

/-- An index belongs to a chunk exactly if it lies in its half of its block. -/
theorem mem_chunk (b : Bool) (q : Fin 8) (i : S4096x2048.Idx) : i ∈ (chunk b q).view.set ↔ halfOf i = b ∧ blockOf i = q := by
  constructor
  · intro h
    obtain ⟨x, -, e⟩ := Finset.mem_map.mp h
    have e' : atChunk b q x = i := e
    rw [← e']; exact ⟨halfOf_at b q x, blockOf_at b q x⟩
  · rintro ⟨rfl, rfl⟩
    have h := at_placeOf i
    exact Finset.mem_map.mpr ⟨placeOf i, Finset.mem_univ _, h⟩

/-- Different chunks share no element. -/
theorem chunks_disjoint (t t' : Bool × Fin 8) (h : t ≠ t') : Disjoint (chunk t.1 t.2).view.set (chunk t'.1 t'.2).view.set :=
  Finset.disjoint_left.mpr fun i h₁ h₂ => h (Prod.ext
    (((mem_chunk _ _ i).mp h₁).1.symm.trans ((mem_chunk _ _ i).mp h₂).1) (((mem_chunk _ _ i).mp h₁).2.symm.trans ((mem_chunk _ _ i).mp h₂).2))

/-- The sixteen chunks are the whole output. -/
theorem chunks_cover : (Finset.univ : Finset (Bool × Fin 8)).biUnion (fun t => (chunk t.1 t.2).view.set) = oMem.view.set := by
  ext i
  rw [show oMem.view.set = Finset.univ from View.set_whole ..]
  simp only [Finset.mem_biUnion, Finset.mem_univ, true_and, iff_true]
  exact ⟨(halfOf i, blockOf i), (mem_chunk _ _ i).mpr ⟨rfl, rfl⟩⟩

omit [FloatOps F] in
/-- The output is its chunks. -/
theorem out_chunks (c : Dev nD) (f : Vec F S4096x2048 .f32) :
    (oMem.view.loc (c : Thread nD τ) ↦[oMem.view.set]{fullShare} f : sProp 𝕄)
      = bigSep Finset.univ fun b : Bool => bigSep Finset.univ fun q : Fin 8 => (chunk b q).view.loc (c : Thread nD τ) ↦[(chunk b q).view.set]{fullShare} f := by
  refine (Ring.pointsTo_sub_blocks (ℓ := oMem.view.loc (c : Thread nD τ)) (fun t : Bool × Fin 8 => (chunk t.1 t.2).view.set)
    (fun t t' h => chunks_disjoint t t' h) oMem.view.set chunks_cover f).trans ?_
  exact bigSep_univ_prod _

omit [FloatOps F] in
/-- A chunk held at the values of the whole contents `f`, and at them only. -/
theorem chunk_intro (c : Dev nD) (b : Bool) (q : Fin 8) (f : Vec F S4096x2048 .f32) :
    ((chunk b q).view.loc (c : Thread nD τ) ↦[(chunk b q).view.set]{fullShare} f : sProp 𝕄) ⊢ holds c (chunk b q) ((chunk b q).view.read (Elt F) f) := by
  unfold holds; iintro H; iexists f; isplitr; · (ipureintro; rfl)
  iexact H
omit [FloatOps F] in
/-- A chunk holds what the array reads on it. -/
theorem chunk_elim (c : Dev nD) (b : Bool) (q : Fin 8) (f : Vec F S4096x2048 .f32) :
    holds c (chunk b q) ((chunk b q).view.read (Elt F) f) ⊢ ((chunk b q).view.loc (c : Thread nD τ) ↦[(chunk b q).view.set]{fullShare} f : sProp 𝕄) := by
  unfold holds; iintro ⟨%g, %hg, H⟩
  iapply (Entails.of_eq (pointsTo_congr (f := g) (g := f) fun i hi => by
    obtain ⟨x, -, e⟩ := Finset.mem_map.mp hi
    have e' : atChunk b q x = i := e
    rw [← e']; exact congrFun hg x))
  iexact H

/-! ## A block's chunks by the step they are sent at -/

omit [FloatOps F] in
/-- A conjunction over the numbers below `n`, indexed by `Fin n`. -/
theorem bigSep_upto (n : ℕ) (Φ : ℕ → sProp 𝕄) : bigSep (Finset.Ico 0 n) Φ = bigSep Finset.univ fun k : Fin n => Φ k.val := by
  have h : Finset.Ico 0 n = (Finset.univ : Finset (Fin n)).map Fin.valEmbedding := by
    ext j; simp only [Finset.mem_Ico, Finset.mem_map, Finset.mem_univ, true_and, Fin.valEmbedding_apply]
    exact ⟨fun h => ⟨⟨j, h.2⟩, rfl⟩, fun ⟨k, e⟩ => e ▸ ⟨Nat.zero_le _, k.isLt⟩⟩
  rw [h, bigSep_map]; rfl

/-- Eight steps name eight blocks. -/
theorem bk_inj (b : Bool) (a : ℕ) (c : Dev nD) : Function.Injective fun k : Fin 8 => bk b (a + k.val) c := by
  intro k k' h
  have h := congrArg Fin.val h
  have h1 := c.isLt
  apply Fin.ext
  cases b <;> (simp only [bk, if_true, Bool.false_eq_true, if_false] at h; omega)
/-- The blocks of eight successive steps are the eight blocks, in another order. -/
def bkEquiv (b : Bool) (a : ℕ) (c : Dev nD) : Fin 8 ≃ Fin 8 :=
  Equiv.ofBijective (fun k : Fin 8 => bk b (a + k.val) c) (Finite.injective_iff_bijective.mp (bk_inj b a c))

omit [FloatOps F] in
/-- A conjunction over the blocks, taken step by step. -/
theorem by_step (b : Bool) (a : ℕ) (c : Dev nD) (Φ : Fin 8 → sProp 𝕄) :
    bigSep Finset.univ Φ = bigSep Finset.univ fun k : Fin 8 => Φ (bk b (a + k.val) c) := bigSep_univ_equiv (bkEquiv b a c) Φ

/-- The output holding the input is every chunk waiting for its step. -/
theorem out_split (c : Dev nD) :
    (oMem.view.loc (c : Thread nD τ) ↦[oMem.view.set]{fullShare} xin m c : sProp 𝕄)
      ⊢ iprop((cur m true c 0 ∗ bigSep (Finset.Ico 1 8) (fut m true c)) ∗ (cur m false c 0 ∗ bigSep (Finset.Ico 1 8) (fut m false c))) := by
  have key : ∀ b, (bigSep Finset.univ fun q : Fin 8 => ((chunk b q).view.loc (c : Thread nD τ) ↦[(chunk b q).view.set]{fullShare} xin m c : sProp 𝕄))
      ⊢ iprop(cur m b c 0 ∗ bigSep (Finset.Ico 1 8) (fut m b c)) := fun b => by
    refine (bigSep_mono fun q _ => chunk_intro c b q (xin m c)).trans ?_
    rw [by_step b 0 c]
    have e := bigSep_upto (F := F) 8 (fut m b c)
    rw [peel_bot (by decide : 0 < 8)] at e
    refine (Entails.of_eq ?_).trans (Entails.of_eq e.symm)
    exact bigSep_congr fun k _ => by rw [Nat.zero_add]; rfl
  rw [out_chunks, bigSep_dirs]
  iintro ⟨H1, H2⟩
  isplitl [H1]
  · iapply (key true); iexact H1
  iapply (key false); iexact H2

/-! ## The result -/

/-- What a chunk holds from the end of the reduce-scatter on depends on the chunk alone. -/
theorem V_final (b : Bool) (j : ℕ) (hj : 7 ≤ j) (c : Dev nD) : V m b j c = V m b 7 (pv b (bk b j c)) := by
  induction j, hj using Nat.le_induction generalizing c with
  | base => congr 1; revert b c; decide
  | succ j hj ih =>
    rw [V_ag m b hj, ih (pv b c)]
    congr 2
    have h := bk_nx b j (pv b c)
    rw [nx_pv] at h; exact h.symm

/-- The result, the same on every device. -/
def result : Vec F S4096x2048 .f32 := fun i => V m (halfOf i) 7 (pv (halfOf i) (blockOf i)) (placeOf i)

/-- On each chunk the result reads what the last reduce-scatter step leaves there. -/
theorem read_result (b : Bool) (q : Fin 8) : (chunk b q).view.read (Elt F) (result m) = V m b 7 (pv b q) := by
  funext x; rw [read_chunk]; unfold result; rw [halfOf_at, blockOf_at, placeOf_at]

/-- The chunks at their final values are the output holding the result. -/
theorem out_join (c : Dev nD) :
    iprop((cur m true c 14 ∗ bigSep (Finset.Ico 7 14) (cur m true c)) ∗ (cur m false c 14 ∗ bigSep (Finset.Ico 7 14) (cur m false c)))
      ⊢ (oMem.view.loc (c : Thread nD τ) ↦[oMem.view.set]{fullShare} result m : sProp 𝕄) := by
  have key : ∀ b, iprop(cur m b c 14 ∗ bigSep (Finset.Ico 7 14) (cur m b c))
      ⊢ (bigSep Finset.univ fun q : Fin 8 => ((chunk b q).view.loc (c : Thread nD τ) ↦[(chunk b q).view.set]{fullShare} result m : sProp 𝕄)) := fun b => by
    rw [← peel_top (by decide : 7 ≤ 14) (cur m b c)]
    refine BI.Entails.trans ?_ (bigSep_mono fun q _ => chunk_elim c b q (result m))
    rw [by_step b 7 c]
    have h : Finset.Ico 7 (14 + 1) = Finset.univ.map (⟨fun k : Fin 8 => 7 + k.val, fun k k' e => Fin.ext (Nat.add_left_cancel e)⟩ : Fin 8 ↪ ℕ) := by decide
    rw [h, bigSep_map]
    exact Entails.of_eq (bigSep_congr fun k _ => by
      show holds c _ (V m b (7 + k.val) c) = _
      rw [read_result, V_final m b _ (Nat.le_add_right _ _)]; rfl)
  rw [out_chunks, bigSep_dirs]
  iintro ⟨H1, H2⟩
  isplitl [H1]
  · iapply (key true); iexact H1
  iapply (key false); iexact H2

/-! ## The communication buffers -/

/-- An index lies in a slot exactly if its leading coordinate is the slot's number. -/
theorem slot_mem (p : Fin 2) (i : S2x256x2048.Idx) : i ∈ (Rect.unit (s := S2x256x2048) ![p.val, 0, 0] S1x256x2048.size (inbSlot p)).set ↔ (i 0).val = p.val := by
  rw [Rect.mem_set_unit]
  constructor
  · intro h
    have h0 := h 0
    have e : (![p.val, 0, 0] : Fin 3 → Nat) 0 = p.val := rfl
    have e' : S1x256x2048.size 0 = 1 := rfl
    rw [e, e'] at h0; omega
  · intro h a
    match a with
    | ⟨0, _⟩ => exact ⟨h.ge, Nat.lt_succ_of_le h.le⟩
    | ⟨1, _⟩ => exact ⟨Nat.zero_le _, (Nat.zero_add _).symm ▸ (i 1).isLt⟩
    | ⟨2, _⟩ => exact ⟨Nat.zero_le _, (Nat.zero_add _).symm ▸ (i 2).isLt⟩

/-- Dropping a slot's leading axis changes none of its elements. -/
theorem slot_set (b : Bool) (p : Fin 2) : (slot b p).view.set = ((comm b).slice (Rect.unit (s := S2x256x2048) ![p.val, 0, 0] S1x256x2048.size (inbSlot p)) (fun _ => rfl)).view.set := View.set_reshape ..

/-- A slot's elements, in the communication buffer. -/
theorem slot_map (b : Bool) (p : Fin 2) : (slot b p).view.set = (Rect.unit (s := S2x256x2048) ![p.val, 0, 0] S1x256x2048.size (inbSlot p)).set.map (comm b).view.emb :=
  (slot_set b p).trans (View.set_slice ..)

/-- The two slots share no element. -/
theorem slots_disjoint (b : Bool) (p p' : Fin 2) (h : p ≠ p') : Disjoint (slot b p).view.set (slot b p').view.set := by
  rw [slot_map, slot_map, Finset.disjoint_map]
  exact Finset.disjoint_left.mpr fun i h₁ h₂ => h (Fin.ext (((slot_mem p i).mp h₁).symm.trans ((slot_mem p' i).mp h₂)))

/-- The two slots are the whole communication buffer. -/
theorem slots_cover (b : Bool) : (Finset.univ : Finset (Fin 2)).biUnion (fun p => (slot b p).view.set) = (comm b).view.set := by
  refine Finset.ext fun i => ⟨fun h => ?_, fun h => ?_⟩
  · obtain ⟨p, -, h⟩ := Finset.mem_biUnion.mp h
    rw [slot_map] at h
    obtain ⟨x, -, e⟩ := Finset.mem_map.mp h
    exact Finset.mem_map.mpr ⟨x, Finset.mem_univ _, e⟩
  · obtain ⟨x, -, e⟩ := Finset.mem_map.mp h
    have hx : (x 0).val < 2 := (x 0).isLt
    refine Finset.mem_biUnion.mpr ⟨⟨(x 0).val, hx⟩, Finset.mem_univ _, ?_⟩
    rw [slot_map]
    exact Finset.mem_map.mpr ⟨x, (slot_mem _ x).mpr rfl, e⟩

omit [FloatOps F] in
/-- A conjunction over the two slots. -/
theorem bigSep_slots (Φ : Fin 2 → sProp 𝕄) : bigSep Finset.univ Φ = iprop(Φ 0 ∗ Φ 1) := by
  rw [bigSep_univ_eq_bigSepL [0, 1] (by decide) (by decide), bigSepL_cons_cons, bigSepL_singleton]; rfl

omit [FloatOps F] in
/-- A communication buffer is its two slots; -/
theorem comm_split (b : Bool) (c : Dev nD) :
    (iprop(∃ f : Buf (Elt F) ((comm b).view.loc (c : Thread nD τ)), (comm b).view.loc (c : Thread nD τ) ↦[(comm b).view.set]{fullShare} f) : sProp 𝕄)
      ⊢ iprop(any c (slot b 0) ∗ any c (slot b 1)) := by
  have e' : ∀ (f : Buf (Elt F) ((comm b).view.loc (c : Thread nD τ))) (p : Fin 2),
      ((comm b).view.loc (c : Thread nD τ) ↦[(slot b p).view.set]{fullShare} f : sProp 𝕄) ⊢ any c (slot b p) := fun f p => by
    unfold any; iintro H; iexists f; iexact H
  have e : ∀ f : Buf (Elt F) ((comm b).view.loc (c : Thread nD τ)), ((comm b).view.loc (c : Thread nD τ) ↦[(comm b).view.set]{fullShare} f : sProp 𝕄)
      ⊢ iprop(any c (slot b 0) ∗ any c (slot b 1)) := fun f => by
    rw [← bigSep_slots (fun p => any c (slot b p))]
    refine (Entails.of_eq (Ring.pointsTo_sub_blocks (ℓ := (comm b).view.loc (c : Thread nD τ)) (fun p : Fin 2 => (slot b p).view.set)
      (fun p p' h => slots_disjoint b p p' h) (comm b).view.set (slots_cover b) f)).trans (bigSep_mono fun p _ => e' f p)
  iintro ⟨%f, H⟩
  iapply (e f); iexact H

omit [FloatOps F] in
/-- and its two slots, at any contents, are the buffer. -/
theorem comm_join (b : Bool) (c : Dev nD) :
    iprop(any c (slot b 0) ∗ any c (slot b 1))
      ⊢ (iprop(∃ f : Buf (Elt F) ((comm b).view.loc (c : Thread nD τ)), (comm b).view.loc (c : Thread nD τ) ↦[(comm b).view.set]{fullShare} f) : sProp 𝕄) := by
  iintro ⟨H0, H1⟩
  ihave H0' := (show any (F := F) c (slot b 0) ⊢ iprop(∃ f : Buf (Elt F) ((comm b).view.loc (c : Thread nD τ)), (comm b).view.loc (c : Thread nD τ) ↦[(slot b 0).view.set]{fullShare} f) from Entails.refl _) $$ H0
  icases H0' with ⟨%f, H0⟩
  iapply (Ring.pointsTo_sub_blocks_join_exists (ℓ := (comm b).view.loc (c : Thread nD τ)) (fun p : Fin 2 => (slot b p).view.set)
    (fun p p' h => slots_disjoint b p p' h) (comm b).view.set (slots_cover b) f)
  iapply (Entails.of_eq (bigSep_slots (F := F) fun p => iprop(∃ f : Buf (Elt F) ((comm b).view.loc (c : Thread nD τ)), (comm b).view.loc (c : Thread nD τ) ↦[(slot b p).view.set]{fullShare} f)).symm)
  isplitl [H0]
  · iexists f; iexact H0
  iapply (show any (F := F) c (slot b 1) ⊢ iprop(∃ f : Buf (Elt F) ((comm b).view.loc (c : Thread nD τ)), (comm b).view.loc (c : Thread nD τ) ↦[(slot b 1).view.set]{fullShare} f) from Entails.refl _)
  iexact H1

end Cert.KernelIdeal.AllReduce
end
-- ==== Proof.Body.lean ====
/-
The whole body on one device.
-/
module

public import proofs.«01_k».proof.Proof.Buffers

@[expose] public section

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## A device's cells, kind by kind -/

/-- A statement of every send cell of a device; of every receive cell; of every credit cell. -/
def sends (Φ : GSem nD τ sig → sProp 𝕄) (b : Bool) (c : Dev nD) : sProp 𝕄 := bigSep (Finset.Ico 0 14) fun k => Φ (sendC b k c)
/-- What is held of each of a device's fourteen receive cells in one direction. -/
def recvs (Φ : GSem nD τ sig → sProp 𝕄) (b : Bool) (c : Dev nD) : sProp 𝕄 := bigSep (Finset.Ico 0 14) fun k => Φ (recvC b k c)
/-- What is held of a device's two credit cells in one direction. -/
def creds (Φ : GSem nD τ sig → sProp 𝕄) (b : Bool) (c : Dev nD) : sProp 𝕄 := iprop(Φ (credC b 0 c) ∗ Φ (credC b 1 c))

omit [FloatOps F] in
/-- A conjunction over one index is its one member. -/
theorem bigSep_one (Φ : Unit → sProp 𝕄) : bigSep Finset.univ Φ = Φ () := by
  rw [bigSep_univ_eq_bigSepL [()] (by decide) (by decide), bigSepL_singleton]

omit [FloatOps F] in
/-- The kernel's own cells of a device. -/
theorem own_cells (Φ : GSem nD τ sig → sProp 𝕄) (c : Dev nD) :
    bigSep Finset.univ (fun i : OI => Φ ((c : Thread nD τ), osem i))
      = iprop(Φ (copyC c) ∗ ((sends Φ true c ∗ sends Φ false c) ∗ (recvs Φ true c ∗ recvs Φ false c)) ∗ (creds Φ true c ∗ creds Φ false c)) := by
  rw [bigSep_univ_sum, bigSep_univ_sum, bigSep_one, bigSep_univ_prod, bigSep_univ_prod, bigSep_dirs, bigSep_univ_prod, bigSep_univ_prod, bigSep_dirs, bigSep_dirs, bigSep_dirs,
    bigSep_slots, bigSep_slots]
  unfold sends recvs creds
  rw [bigSep_upto, bigSep_upto, bigSep_upto, bigSep_upto]
  rfl
omit [FloatOps F] in
/-- All its cells. -/
theorem all_cells (Φ : GSem nD τ sig → sProp 𝕄) (c : Dev nD) :
    bigSep Finset.univ (fun i : CI => Φ (kcell (c, i))) = iprop(Φ (barC c) ∗ bigSep Finset.univ (fun i : OI => Φ ((c : Thread nD τ), osem i))) := by
  rw [bigSep_univ_sum, bigSep_one]; rfl

/-! ## The body -/

/-- What a device starts from besides memory: its places, its tokens, and the credits of what its neighbours owe it. -/
def tools (c : Dev nD) : sProp 𝕄 :=
  iprop((atPos ER (barC c) 0 ∅ 0 ∗ atPos ER (copyC c) 0 ∅ 0)
    ∗ (dutyTok ER (copyC c) 0 false ∗ dutyTok ER (barC (pv true c)) 0 true ∗ dutyTok ER (barC (pv false c)) 0 false)
    ∗ cred (tallyAt (barC c) 0 2)
    ∗ (bigSep (Finset.Ico 0 14) (pays true c) ∗ bigSep (Finset.Ico 0 14) (pays false c))
    ∗ (bigSep (Finset.Ico 0 14) (waits true c) ∗ bigSep (Finset.Ico 0 14) (waits false c))
    ∗ bigSep (Finset.Ico 0 5) (handing c) ∗ bigSep (Finset.Ico 0 5) (takes c) ∗ place c 0 ∗ place c 1)

/-- The device's input; its output at some contents; its communication buffers. -/
abbrev inp (c : Dev nD) : sProp 𝕄 := xMem.view.loc (c : Thread nD τ) ↦[xMem.view.set]{fullShare} m ((c : Thread nD τ).loc main_arg0)
/-- The output's staging buffer of a device, at contents `f`. -/
abbrev outp (c : Dev nD) (f : Vec F S4096x2048 .f32) : sProp 𝕄 := oMem.view.loc (c : Thread nD τ) ↦[oMem.view.set]{fullShare} f
/-- The communication buffer of one direction, at any contents. -/
abbrev comms (b : Bool) (c : Dev nD) : sProp 𝕄 :=
  iprop(∃ f : Buf (Elt F) ((comm b).view.loc (c : Thread nD τ)), (comm b).view.loc (c : Thread nD τ) ↦[(comm b).view.set]{fullShare} f)

/-- Every cell of a device is closed. -/
def shut (c : Dev nD) : sProp 𝕄 := bigSep Finset.univ fun i : CI => semVal (kcell (c, i)) 0

/-- The first reduce-scatter state. -/
theorem RS_start (c : Dev nD) :
    iprop(outp c (xin m c) ∗ (bigSep (Finset.Ico 0 14) (pays true c) ∗ bigSep (Finset.Ico 0 14) (pays false c))
        ∗ (bigSep (Finset.Ico 0 14) (waits true c) ∗ bigSep (Finset.Ico 0 14) (waits false c)) ∗ owing c (Orest c 0)) ⊢ RS m c 0 := by
  have key : ∀ b, iprop((cur m b c 0 ∗ bigSep (Finset.Ico 1 8) (fut m b c)) ∗ bigSep (Finset.Ico 0 14) (pays b c) ∗ bigSep (Finset.Ico 0 14) (waits b c)) ⊢ rsSt m b c 0 := fun b => by
    unfold rsSt dirSt
    rw [peel_none, peel_none]
    iintro ⟨⟨H1, H2⟩, H3, H4⟩
    isplitl [H1 H3 H4]
    · isplitl [H1]; · iexact H1
      isplitr
      · unfold old; rw [if_neg (by decide)]; iempintro
      isplitl [H3]; · iexact H3
      isplitl [H4]; · iexact H4
      iempintro
    isplitl [H2]; · iexact H2
    iempintro
  unfold RS
  iintro ⟨Ho, ⟨Hp1, Hp2⟩, ⟨Hw1, Hw2⟩, HO⟩
  ihave H := (out_split m c) $$ Ho
  icases H with ⟨H1, H2⟩
  isplitl [H1 Hp1 Hw1]
  · iapply (key true)
    isplitl [H1]; · iexact H1
    isplitl [Hp1] <;> iassumption
  isplitl [H2 Hp2 Hw2]
  · iapply (key false)
    isplitl [H2]; · iexact H2
    isplitl [Hp2] <;> iassumption
  iexact HO

/-- What a device holds after the seventh reduce-scatter step is what the all-gather steps start from. -/
theorem AG_of_RS (c : Dev nD) : RS m c 7 ⊢ AG m c 7 := by
  unfold RS AG
  iintro ⟨H1, H2, H3⟩
  isplitl [H1]; · iapply (ag_of_rs m true c); iexact H1
  isplitl [H2]; · iapply (ag_of_rs m false c); iexact H2
  iexact H3

/-- The last all-gather state: the output holds the result, every transfer's cells are closed, nothing is owed. -/
theorem AG_end (c : Dev nD) :
    AG m c 14 ⊢ iprop(outp c (result m) ∗ (sends (fun g => semVal g 0) true c ∗ sends (fun g => semVal g 0) false c)
      ∗ (recvs (fun g => semVal g 0) true c ∗ recvs (fun g => semVal g 0) false c) ∗ owing c 0) := by
  have key : ∀ b, agSt m b c 14 ⊢ iprop((cur m b c 14 ∗ bigSep (Finset.Ico 7 14) (cur m b c)) ∗ sends (fun g => semVal g 0) b c ∗ recvs (fun g => semVal g 0) b c) := fun b => by
    unfold agSt dirSt sends recvs
    iintro ⟨⟨H1, -, -, -, H2⟩, H3, -⟩
    isplitl [H1 H3]
    · isplitl [H1] <;> iassumption
    iapply (show bigSep (Finset.Ico 0 14) (closed b c) ⊢ iprop(bigSep (Finset.Ico 0 14) (fun k => semVal (sendC b k c) 0) ∗ bigSep (Finset.Ico 0 14) (fun k => semVal (recvC b k c) 0)) from
      Entails.of_eq (bigSep_sep' ..))
    iexact H2
  unfold AG
  rw [Orest_end]
  iintro ⟨H1, H2, HO⟩
  ihave H1 := (key true) $$ H1
  ihave H2 := (key false) $$ H2
  icases H1 with ⟨Ho1, Hs1, Hr1⟩
  icases H2 with ⟨Ho2, Hs2, Hr2⟩
  isplitl [Ho1 Ho2]
  · iapply (out_join m c)
    isplitl [Ho1] <;> iassumption
  isplitl [Hs1 Hs2]
  · isplitl [Hs1] <;> iassumption
  isplitl [Hr1 Hr2]
  · isplitl [Hr1] <;> iassumption
  iexact HO

/-- A device's credit cells close once their slot is not to be reused. -/
theorem close_one (b : Bool) {k : ℕ} (hk : 4 < k) (c : Dev nD) :
    iprop(recs m ∗ atPos ER (credC b k c) (k / 2) ∅ 0) ⊢ (|={Set.univ}=> semVal (credC b k c) 0 : sProp 𝕄) := by
  iintro ⟨#HR, Hat⟩
  ihave #H1 := (recs_cred m b k c) $$ HR
  unfold run
  icases H1 with ⟨⟨%κ, #HI⟩, -⟩
  iapply (Rounds.cell_close ER (Rd m) (Set.mem_univ κ) (fun h => h) (R := k / 2) (duties_cred_later m c b k (k / 2) (by omega)))
  isplitr; · iexact HI
  iexact Hat

/-- After the last credits both credit cells of both directions can be closed at zero. -/
theorem close_all (c : Dev nD) :
    iprop(recs m ∗ place c 6 ∗ place c 5) ⊢ (|={Set.univ}=> iprop(creds (fun g => semVal g 0) true c ∗ creds (fun g => semVal g 0) false c) : sProp 𝕄) := by
  have e0 : ∀ b, credC b 6 c = credC b 0 c := fun b => (credC_two b 4 c).trans ((credC_two b 2 c).trans (credC_two b 0 c))
  have e1 : ∀ b, credC b 5 c = credC b 1 c := fun b => (credC_two b 3 c).trans (credC_two b 1 c)
  unfold place creds
  iintro ⟨#HR, ⟨H1, H2⟩, ⟨H3, H4⟩⟩
  imod (close_one m true (by decide : 4 < 6) c) $$ [H1] with Hz1
  · isplitr; · iexact HR
    iexact H1
  imod (close_one m false (by decide : 4 < 6) c) $$ [H2] with Hz2
  · isplitr; · iexact HR
    iexact H2
  imod (close_one m true (by decide : 4 < 5) c) $$ [H3] with Hz3
  · isplitr; · iexact HR
    iexact H3
  imod (close_one m false (by decide : 4 < 5) c) $$ [H4] with Hz4
  · isplitr; · iexact HR
    iexact H4
  imodintro
  rw [← e0, ← e0, ← e1, ← e1]
  isplitl [Hz1 Hz3]
  · isplitl [Hz1] <;> iassumption
  isplitl [Hz2] <;> iassumption

set_option maxHeartbeats 1000000 in
/-- The body: from the input, to the output holding the result on every device and every cell closed. -/
theorem wp_body {Q : PUnit.{1} → sProp 𝕄} (c : Dev nD) :
    iprop(recs m ∗ levAts L lv ∗ tools c ∗ inp m c ∗ (∃ f, outp c f) ∗ comms true c ∗ comms false c ∗ owing c (O₀ c)
        ∗ ((owing c 0 ∗ inp m c ∗ outp c (result m) ∗ comms true c ∗ comms false c ∗ shut c) -∗ Q ⟨⟩))
      ⊢ WP c (body c) Q := by
  unfold body tools
  simp only [wp_bind]
  iintro ⟨#HR, #Hlev, ⟨⟨Hab, Hac⟩, ⟨Htc, Ht1, Ht2⟩, Hcb, Hps, Hws, Hg, Ht, Hp0, Hp1⟩, Hx, Ho, Hq1, Hq2, HO, Hk⟩
  ihave Hq1 := (comm_split true c) $$ Hq1
  ihave Hq2 := (comm_split false c) $$ Hq2
  iapply (wp_entry m c)
  isplitr; · iexact HR
  isplitr; · iexact Hlev
  isplitl [Hx]; · iexact Hx
  isplitl [Ho]; · iexact Ho
  isplitl [Hq1]; · iexact Hq1
  isplitl [Hq2]; · iexact Hq2
  isplitl [Htc]; · iexact Htc
  isplitl [Ht1]; · iexact Ht1
  isplitl [Ht2]; · iexact Ht2
  isplitl [Hac]; · iexact Hac
  isplitl [Hab]; · iexact Hab
  isplitl [Hcb]; · iexact Hcb
  isplitl [HO]; · iexact HO
  iintro ⟨HO, Hzb, Hzc, Hx, Ho, Hs0, Hs1⟩
  ihave HS := (RS_start m c) $$ [Ho Hps Hws HO]
  · isplitl [Ho]; · iexact Ho
    isplitl [Hps]; · iexact Hps
    isplitl [Hws] <;> iassumption
  -- the steps whose slots are the neighbours' at the start
  iapply (wp_rsGive m 0 (by decide) c)
  isplitr; · iexact HR
  isplitr; · iexact Hlev
  isplitl [HS]; · iexact HS
  isplitl [Hs0]; · iexact Hs0
  isplitr; · iapply (marks_start m c (by decide : 0 < 2)); iexact HR
  isplitl [Hg]; · iexact Hg
  iintro ⟨HS, Hg⟩
  iapply (wp_rsGive m 1 (by decide) c)
  isplitr; · iexact HR
  isplitr; · iexact Hlev
  isplitl [HS]; · iexact HS
  isplitl [Hs1]; · iexact Hs1
  isplitr; · iapply (marks_start m c (by decide : 1 < 2)); iexact HR
  isplitl [Hg]; · iexact Hg
  iintro ⟨HS, Hg⟩
  -- those that wait for their slots and hand them back
  iapply (wp_rsTake m 2 (j := 0) rfl c)
  isplitr; · iexact HR
  isplitr; · iexact Hlev
  isplitl [HS]; · iexact HS
  isplitl [Ht]; · iexact Ht
  isplitl [Hp0]; · iexact Hp0
  iintro ⟨HS, Hs, Hm, Hp0, Ht⟩
  iapply (wp_rsGive m 2 (by decide) c)
  isplitr; · iexact HR
  isplitr; · iexact Hlev
  isplitl [HS]; · iexact HS
  isplitl [Hs]; · iexact Hs
  isplitl [Hm]; · iexact Hm
  isplitl [Hg]; · iexact Hg
  iintro ⟨HS, Hg⟩
  iapply (wp_rsTake m 3 (j := 1) rfl c)
  isplitr; · iexact HR
  isplitr; · iexact Hlev
  isplitl [HS]; · iexact HS
  isplitl [Ht]; · iexact Ht
  isplitl [Hp1]; · iexact Hp1
  iintro ⟨HS, Hs, Hm, Hp1, Ht⟩
  iapply (wp_rsGive m 3 (by decide) c)
  isplitr; · iexact HR
  isplitr; · iexact Hlev
  isplitl [HS]; · iexact HS
  isplitl [Hs]; · iexact Hs
  isplitl [Hm]; · iexact Hm
  isplitl [Hg]; · iexact Hg
  iintro ⟨HS, Hg⟩
  iapply (wp_rsTake m 4 (j := 2) rfl c)
  isplitr; · iexact HR
  isplitr; · iexact Hlev
  isplitl [HS]; · iexact HS
  isplitl [Ht]; · iexact Ht
  isplitl [Hp0]; · iexact Hp0
  iintro ⟨HS, Hs, Hm, Hp0, Ht⟩
  iapply (wp_rsGive m 4 (by decide) c)
  isplitr; · iexact HR
  isplitr; · iexact Hlev
  isplitl [HS]; · iexact HS
  isplitl [Hs]; · iexact Hs
  isplitl [Hm]; · iexact Hm
  isplitl [Hg]; · iexact Hg
  iintro ⟨HS, Hg⟩
  -- those that keep them
  iapply (wp_rsTake m 5 (j := 3) rfl c)
  isplitr; · iexact HR
  isplitr; · iexact Hlev
  isplitl [HS]; · iexact HS
  isplitl [Ht]; · iexact Ht
  isplitl [Hp1]; · iexact Hp1
  iintro ⟨HS, Hs, Hm, Hp1, Ht⟩
  iapply (wp_rsKeep m 5 (by decide) c)
  isplitr; · iexact HR
  isplitr; · iexact Hlev
  isplitl [HS]; · iexact HS
  isplitl [Hs]; · iexact Hs
  isplitl [Hm]; · iexact Hm
  iintro ⟨HS, He5⟩
  iapply (wp_rsTake m 6 (j := 4) rfl c)
  isplitr; · iexact HR
  isplitr; · iexact Hlev
  isplitl [HS]; · iexact HS
  isplitl [Ht]; · iexact Ht
  isplitl [Hp0]; · iexact Hp0
  iintro ⟨HS, Hs, Hm, Hp0, -⟩
  iapply (wp_rsKeep m 6 (by decide) c)
  isplitr; · iexact HR
  isplitr; · iexact Hlev
  isplitl [HS]; · iexact HS
  isplitl [Hs]; · iexact Hs
  isplitl [Hm]; · iexact Hm
  iintro ⟨HS, He6⟩
  ihave HS := (show RS m c ((6 : Fin 7).val + 1) ⊢ AG m c (7 + (0 : Fin 7).val) from AG_of_RS m c) $$ HS
  -- the all-gather
  iapply (wp_agTurn m 0 c); isplitr; · iexact HR
  isplitr; · iexact Hlev
  isplitl [HS]; · iexact HS
  iintro HS
  iapply (wp_agTurn m 1 c); isplitr; · iexact HR
  isplitr; · iexact Hlev
  isplitl [HS]; · iexact HS
  iintro HS
  iapply (wp_agTurn m 2 c); isplitr; · iexact HR
  isplitr; · iexact Hlev
  isplitl [HS]; · iexact HS
  iintro HS
  iapply (wp_agTurn m 3 c); isplitr; · iexact HR
  isplitr; · iexact Hlev
  isplitl [HS]; · iexact HS
  iintro HS
  iapply (wp_agTurn m 4 c); isplitr; · iexact HR
  isplitr; · iexact Hlev
  isplitl [HS]; · iexact HS
  iintro HS
  iapply (wp_agTurn m 5 c); isplitr; · iexact HR
  isplitr; · iexact Hlev
  isplitl [HS]; · iexact HS
  iintro HS
  iapply fupd_wp
  ihave Hz := (close_all m c) $$ [Hp0 Hp1]
  · isplitr; · iexact HR
    isplitl [Hp0] <;> iassumption
  imod Hz with Hz
  imodintro
  iapply (wp_agTurn m 6 c); isplitr; · iexact HR
  isplitr; · iexact Hlev
  isplitl [HS]; · iexact HS
  iintro HS
  ihave HE := (show AG m c (7 + (6 : Fin 7).val + 1) ⊢ _ from AG_end m c) $$ HS
  icases HE with ⟨Ho, Hzs, Hzr, HO⟩
  unfold emptied
  icases He5 with ⟨Ha1, Hb1⟩
  icases He6 with ⟨Ha0, Hb0⟩
  iapply Hk
  isplitl [HO]; · iexact HO
  isplitl [Hx]; · iexact Hx
  isplitl [Ho]; · iexact Ho
  isplitl [Ha0 Ha1]
  · iapply (comm_join true c)
    isplitl [Ha0]; · iexact Ha0
    iexact Ha1
  isplitl [Hb0 Hb1]
  · iapply (comm_join false c)
    isplitl [Hb0]; · iexact Hb0
    iexact Hb1
  unfold shut
  rw [all_cells (fun g => semVal g 0), own_cells (fun g => semVal g 0)]
  isplitl [Hzb]; · iexact Hzb
  isplitl [Hzc]; · iexact Hzc
  isplitl [Hzs Hzr]
  · isplitl [Hzs] <;> iassumption
  iexact Hz

end Cert.KernelIdeal.AllReduce
end
-- ==== Proof.Ghost.lean ====
/-
What the launch hands out: the cells of every device, the tokens dealt around the ring, and the credits.
-/
module

public import proofs.«01_k».proof.Proof.Body
public import Idealize.ShloMosaic.Lib.Pipeline.Launch

@[expose] public section

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## The cells -/

/-- The role of a cell, by its index. -/
def roleOf : CI → Role
  | .inl _ => .bar
  | .inr (.inl _) => .copy
  | .inr (.inr (.inl (true, b, k))) => .send b k.val
  | .inr (.inr (.inl (false, b, k))) => .recv b k.val
  | .inr (.inr (.inr (b, p))) => .credit b p.val

/-- A listed cell's role is the one listed for it. -/
theorem role_csem (i : CI) : role (csem i) = roleOf i := by
  rcases i with _ | _ | ⟨_ | _, b, k⟩ | ⟨b, p⟩
  · exact role_bar
  · exact role_copy
  · exact role_recv b k.isLt
  · exact role_send b k.isLt
  · exact (role_cred b p.val).trans (congrArg (Role.credit b) (Nat.mod_eq_of_lt p.isLt))

/-- Different cells of the list have different roles, -/
theorem roleOf_inj {i j : CI} (h : roleOf i = roleOf j) : i = j := by
  rcases i with _ | _ | ⟨_ | _, b, k⟩ | ⟨b, p⟩ <;> rcases j with _ | _ | ⟨_ | _, b', k'⟩ | ⟨b', p'⟩ <;>
    simp only [roleOf, Role.send.injEq, Role.recv.injEq, Role.credit.injEq, reduceCtorEq] at h
  · rfl
  · rfl
  · rw [h.1, Fin.ext h.2]
  · rw [h.1, Fin.ext h.2]
  · rw [h.1, Fin.ext h.2]

/-- so they are different semaphores, -/
theorem csem_inj {i j : CI} (h : csem i = csem j) : i = j :=
  roleOf_inj (by rw [← role_csem i, ← role_csem j, h])

/-- and over all devices different cells. -/
theorem kcell_injective : Function.Injective (kcell : Dev nD × CI → GSem nD τ sig) := by
  rintro ⟨c, k⟩ ⟨c', k'⟩ h
  have h1 : c = c' := congrArg (fun g : GSem nD τ sig => g.1.1) h
  have h2 : k = k' := csem_inj (congrArg Prod.snd h)
  rw [h1, h2]
/-- Every device's cells. -/
def kcells : Finset (GSem nD τ sig) := Finset.univ.map ⟨kcell, kcell_injective⟩

/-- The cells are semaphores of the kernel's own, none of the launch's. -/
theorem osem_facts : Pipeline.OwnSemFacts cfg0.spec osem where
  isScoped k := by revert k; decide +kernel
  inj := fun i j h => Sum.inr.inj (csem_inj (i := .inr i) (j := .inr j) h)
  disj := by decide +kernel

/-! ## The tokens -/

/-- The tokens of a device's own cells: the barrier's two; the copy's; every transfer's; every credit's. -/
abbrev TI : Type := Bool ⊕ Unit ⊕ (Bool × Bool × Fin 14) ⊕ (Bool × Fin 5)
instance decTI : DecidableEq TI := inferInstance

/-- The cell, round and payer of a listed payment. -/
def tokS : TI → SemLoc sig × ℕ × Bool
  | .inl d => (.reg barrier0, 0, d)
  | .inr (.inl _) => (.dma copyS, 0, false)
  | .inr (.inr (.inl (true, b, k))) => (.dma (sN b k.val), 0, false)
  | .inr (.inr (.inl (false, b, k))) => (.dma (rN b k.val), 0, false)
  | .inr (.inr (.inr (b, k))) => (.reg (cN b k.val), k.val / 2, false)
/-- The same on a device. -/
def tokOf (ct : Dev nD × TI) : GSem nD τ sig × ℕ × Bool := (((ct.1 : Thread nD τ), (tokS ct.2).1), (tokS ct.2).2)

/-- Different payments differ in cell, round or payer, -/
theorem tokS_inj {i j : TI} (h : tokS i = tokS j) : i = j := by
  have h1 : role (tokS i).1 = role (tokS j).1 := by rw [h]
  have h2 : (tokS i).2 = (tokS j).2 := by rw [h]
  rcases i with d | _ | ⟨_ | _, b, k⟩ | ⟨b, k⟩ <;> rcases j with d' | _ | ⟨_ | _, b', k'⟩ | ⟨b', k'⟩ <;>
    simp only [tokS, role_bar, role_copy, role_send _ (Fin.isLt _), role_recv _ (Fin.isLt _), role_cred, Role.send.injEq, Role.recv.injEq, Role.credit.injEq, reduceCtorEq,
      Prod.mk.injEq, true_and, and_true] at h1 h2
  · rw [h2]
  · rfl
  · rw [h1.1, Fin.ext h1.2]
  · rw [h1.1, Fin.ext h1.2]
  · rw [h1.1, show k = k' from Fin.ext (by have := h1.2; omega)]

/-- over all devices too. -/
theorem tokOf_injective : Function.Injective tokOf := by
  rintro ⟨c, k⟩ ⟨c', k'⟩ h
  have h1 : c = c' := congrArg (fun x : GSem nD τ sig × ℕ × Bool => x.1.1.1) h
  have h2 : k = k' := tokS_inj (congrArg (fun x : GSem nD τ sig × ℕ × Bool => (x.1.2, x.2)) h)
  rw [h1, h2]
/-- Every payment of every device. -/
def ktoks : Finset (GSem nD τ sig × ℕ × Bool) := Finset.univ.map ⟨tokOf, tokOf_injective⟩

/-- One device's tokens of the sends, of the arrivals, of the credits, in one direction. -/
def sendT (b : Bool) (c : Dev nD) : sProp 𝕄 := bigSep (Finset.Ico 0 14) fun k => dutyTok ER (sendC b k c) 0 false
/-- The right to make each of the payments into a device's receive cells of one direction, -/
def recvT (b : Bool) (c : Dev nD) : sProp 𝕄 := bigSep (Finset.Ico 0 14) fun k => dutyTok ER (recvC b k c) 0 false
/-- and into its credit cells. -/
def credT (b : Bool) (c : Dev nD) : sProp 𝕄 := bigSep (Finset.Ico 0 5) fun k => dutyTok ER (credC b k c) (k / 2) false

/-- The tokens of a device's own cells. -/
def toks (c : Dev nD) : sProp 𝕄 := bigSep Finset.univ fun t : TI => dutyTok ER (tokOf (c, t)).1 (tokOf (c, t)).2.1 (tokOf (c, t)).2.2

omit [FloatOps F] in
/-- A device's payments, sorted by the kind of cell. -/
theorem toks_eq (c : Dev nD) : toks (F := F) c
    = iprop((dutyTok ER (barC c) 0 true ∗ dutyTok ER (barC c) 0 false) ∗ dutyTok ER (copyC c) 0 false
        ∗ ((sendT true c ∗ sendT false c) ∗ (recvT true c ∗ recvT false c)) ∗ (credT true c ∗ credT false c)) := by
  unfold toks sendT recvT credT
  rw [bigSep_univ_sum, bigSep_univ_sum, bigSep_univ_sum, bigSep_one, bigSep_univ_prod, bigSep_univ_prod, bigSep_dirs, bigSep_dirs, bigSep_univ_prod, bigSep_univ_prod,
    bigSep_dirs, bigSep_dirs, bigSep_dirs]
  simp only [bigSep_upto]
  rfl

/-- The tokens of the duties the device itself pays. -/
def payT (c : Dev nD) : sProp 𝕄 :=
  iprop((dutyTok ER (barC (pv true c)) 0 true ∗ dutyTok ER (barC (pv false c)) 0 false) ∗ dutyTok ER (copyC c) 0 false
    ∗ ((sendT true c ∗ sendT false c) ∗ (recvT true (nx true c) ∗ recvT false (nx false c))) ∗ (credT true (pv true c) ∗ credT false (pv false c)))

/-- The ring as a permutation of the devices. -/
def turn (b : Bool) : Dev nD ≃ Dev nD := ⟨nx b, pv b, pv_nx b, nx_pv b⟩

omit [FloatOps F] in
/-- A conjunction over the devices, taken at each one's next, -/
theorem around_nx (b : Bool) (Φ : Dev nD → sProp 𝕄) : bigSep Finset.univ Φ = bigSep Finset.univ fun c => Φ (nx b c) := bigSep_univ_equiv (turn b) Φ
omit [FloatOps F] in
/-- or at each one's previous. -/
theorem around_pv (b : Bool) (Φ : Dev nD → sProp 𝕄) : bigSep Finset.univ Φ = bigSep Finset.univ fun c => Φ (pv b c) := bigSep_univ_equiv (turn b).symm Φ

omit [FloatOps F] in
/-- The tokens dealt around the ring: each device gets those of the duties it pays. -/
theorem toks_around : (bigSep Finset.univ fun c : Dev nD => (toks (F := F) c : sProp 𝕄)) ⊢ bigSep Finset.univ fun c : Dev nD => payT c := by
  refine Entails.of_eq ?_
  rw [bigSep_congr fun c _ => toks_eq (F := F) c]
  unfold payT
  simp only [bigSep_sep']
  rw [around_pv true (fun c => dutyTok ER (barC c) 0 true), around_pv false (fun c => dutyTok ER (barC c) 0 false),
    around_nx true (recvT (F := F) true), around_nx false (recvT (F := F) false), around_pv true (credT (F := F) true), around_pv false (credT (F := F) false)]

/-! ## The launch element -/

/-- What the launch starts from: the staging's part and the kernel's own. -/
def u₀ : UU := (initOf (Pipeline.cells cfgs cellOf_inj) (Pipeline.launchToks cfgs cellOf_inj), initOf kcells ktoks)

/-- What the launch element deals a device. -/
def G (c : Dev nD) : sProp 𝕄 :=
  iprop((bigSep Finset.univ fun k : CI => roundState ER (Rd (F := F) m) (kcell (c, k)) 0)
    ∗ ((bigSep Finset.univ fun k : CI => atPos ER (kcell (c, k)) 0 ∅ 0) ∗ bigSep Finset.univ fun k : CI => reached ER (kcell (c, k)) 0) ∗ toks c)

/-- What it keeps once the cells run. -/
def G' (c : Dev nD) : sProp 𝕄 := iprop(recs m ∗ (bigSep Finset.univ fun k : CI => atPos ER (kcell (c, k)) 0 ∅ 0) ∗ payT c)

/-- The kernel's part gives each device its cells' places and tokens. -/
theorem fund : BI.own (ER (initOf kcells ktoks)) ⊢ (|==> bigSep Finset.univ (G (F := F) m) : sProp 𝕄) := by
  have hX (Φ : GSem nD τ sig → sProp 𝕄) : bigSep kcells Φ = bigSep Finset.univ fun c : Dev nD => bigSep Finset.univ fun k : CI => Φ (kcell (c, k)) := by
    unfold kcells; rw [bigSep_map, bigSep_univ_prod]; rfl
  have hT : bigSep ktoks (fun x => (dutyTok ER x.1 x.2.1 x.2.2 : sProp 𝕄)) = bigSep Finset.univ fun c : Dev nD => toks c := by
    unfold ktoks; rw [bigSep_map, bigSep_univ_prod]; rfl
  iintro HX
  imod (Rounds.fund ER (Rd (F := F) m) kcells ktoks) $$ HX with ⟨Hst, Hr, Hat, Htok⟩
  imodintro
  ihave Hst' := (Entails.of_eq (hX fun g => roundState ER (Rd (F := F) m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The runtime's barrier is the one semaphore of no scope. -/
theorem unscopedSems0_eq (c : Dev nD) : (unscopedSems0 c : sProp 𝕄) = semVal (barC c) 0 := by
  unfold unscopedSems0; rw [bigSep_eq_bigSepL_of_eq [SemLoc.reg barrier0] (by decide) (by decide +kernel)]; rfl

omit [FloatOps F] in
/-- The counters of a device's cells. -/
theorem sems_eq (c : Dev nD) :
    (bigSep Finset.univ fun k : CI => semVal (kcell (c, k)) 0 : sProp 𝕄)
      = iprop(unscopedSems0 c ∗ Pipeline.ownSems0 (Ix := ℕ) (Name := ℕ) (U := UU) (Lvl := ℕ) (Val := Elt F) (τ := τ) osem c) := by
  rw [unscopedSems0_eq, all_cells fun g => semVal g 0]; rfl

/-- A device's cells start at zero, each with its place and its tokens. -/
theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k : CI => run m (kcell (c, k)))
          ∗ ((bigSep Finset.univ fun k : CI => atPos ER (kcell (c, k)) 0 ∅ 0) ∗ bigSep Finset.univ fun k : CI => reached ER (kcell (c, k)) 0) ∗ toks c) := by
  unfold G
  iintro ⟨Hos, Hus, Hst, Hat, Htok⟩
  ihave Hv := (Entails.of_eq (sems_eq (F := F) c).symm) $$ [Hos Hus]
  · isplitl [Hus] <;> iassumption
  imod (show iprop((bigSep Finset.univ fun k : CI => semVal (kcell (c, k)) 0) ∗ bigSep Finset.univ fun k : CI => roundState ER (Rd (F := F) m) (kcell (c, k)) 0)
      ⊢ (|={Set.univ}=> bigSep Finset.univ fun k : CI => run m (kcell (c, k)) : sProp 𝕄) from by
        rw [← bigSep_sep']
        exact (bigSep_mono fun k _ => (Rounds.body_intro ER (Rd (F := F) m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- A fact that lasts can be handed to every member of a conjunction. -/
theorem share_out {I : Type} [DecidableEq I] {S : Finset I} {R : sProp 𝕄} [BI.Persistent R] {Φ : I → sProp 𝕄} :
    iprop(R ∗ bigSep S Φ) ⊢ bigSep S fun i => iprop(R ∗ Φ i) :=
  (sep_mono_left (BI.bigSep_of_persistent S R)).trans (Entails.of_eq (bigSep_sep' ..).symm)

/-- The devices' tokens, dealt around the ring to those who make the payments. -/
theorem regroup :
    (bigSep Finset.univ fun c : Dev nD => iprop((bigSep Finset.univ fun k : CI => run m (kcell (c, k)))
          ∗ ((bigSep Finset.univ fun k : CI => atPos ER (kcell (c, k)) 0 ∅ 0) ∗ bigSep Finset.univ fun k : CI => reached ER (kcell (c, k)) 0) ∗ toks c) : sProp 𝕄)
      ⊢ bigSep Finset.univ (G' (F := F) m) := by
  rw [bigSep_sep', bigSep_sep', bigSep_sep', ← bigSep_univ_prod (fun ck : Dev nD × CI => run m (kcell ck)),
    ← bigSep_univ_prod (fun ck : Dev nD × CI => (reached ER (kcell ck) 0 : sProp 𝕄))]
  iintro ⟨HI, ⟨Hat, HR⟩, Htok⟩
  ihave Htk := (toks_around (F := F)) $$ Htok
  ihave Hrecs := (show iprop((bigSep Finset.univ fun ck : Dev nD × CI => run m (kcell ck)) ∗ bigSep Finset.univ fun ck : Dev nD × CI => (reached ER (kcell ck) 0 : sProp 𝕄)) ⊢ recs m from
    Entails.of_eq (by unfold recs; rw [bigSep_sep'])) $$ [HI HR]
  · isplitl [HI] <;> iassumption
  iapply (show _ ⊢ bigSep Finset.univ (G' (F := F) m) from share_out (R := recs m) (S := Finset.univ)
    (Φ := fun c : Dev nD => iprop((bigSep Finset.univ fun k : CI => atPos ER (kcell (c, k)) 0 ∅ 0) ∗ payT c)))
  isplitl [Hrecs]; · iexact Hrecs
  rw [bigSep_sep']
  isplitl [Hat]; · iexact Hat
  iexact Htk

/-- Every device's cells set running at once. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' (F := F) m) :=
  ((bigSep_mono fun c _ => core_alloc m c).trans (bigSep_fupd _ _)).trans (BI.fupd_mono (regroup m))

/-! ## The credits -/

omit [FloatOps F] in
/-- What every device owes its next is due to each from its previous, -/
theorem credit_nx (b : Bool) (sm : SemLoc sig) (ι n : ℕ) (c : Dev nD) :
    (Pipeline.launchCred (fun d => tallyAt ((nx b d : Thread nD τ), sm) ι n) c : sProp 𝕄) ⊢ cred (tallyAt ((c : Thread nD τ), sm) ι n) :=
  Pipeline.launchCred_tallyAt sm (nx b) (pv b) (nx_pv b) (pv_nx b) ι n c
omit [FloatOps F] in
/-- and the other way round. -/
theorem credit_pv (b : Bool) (sm : SemLoc sig) (ι n : ℕ) (c : Dev nD) :
    (Pipeline.launchCred (fun d => tallyAt ((pv b d : Thread nD τ), sm) ι n) c : sProp 𝕄) ⊢ cred (tallyAt ((c : Thread nD τ), sm) ι n) :=
  Pipeline.launchCred_tallyAt sm (pv b) (nx b) (pv_nx b) (nx_pv b) ι n c

/-- What a device is owed at launch of step `k`. -/
def due (c : Dev nD) (k : ℕ) : sProp 𝕄 :=
  iprop((cred (tallyAt (recvC true k c) 0 N) ∗ cred (tallyAt (recvC false k c) 0 N)) ∗ (if k ≤ 4 then takes c k else iprop(emp)))

omit [FloatOps F] in
/-- What all devices pay at step `k` is due to each device there. -/
theorem credit_step (k : ℕ) (c : Dev nD) : (Pipeline.launchCred (fun d => sd d k + cr d k) c : sProp 𝕄) ⊢ due c k := by
  rw [Pipeline.launchCred_add]
  unfold due
  refine BIClass.sep_mono ?_ ?_
  · unfold sd
    rw [Pipeline.launchCred_add]
    exact BIClass.sep_mono (credit_nx true _ 0 N c) (credit_nx false _ 0 N c)
  · unfold cr
    by_cases h : k ≤ 4
    · simp only [h, if_true]
      rw [Pipeline.launchCred_add]
      exact BIClass.sep_mono (credit_pv true _ k 1 c) (credit_pv false _ k 1 c)
    · simp only [h, if_false]
      rw [Pipeline.launchCred_zero]

omit [FloatOps F] in
/-- The credits that are due, of all steps. -/
theorem takes_all (c : Dev nD) : (bigSep (Finset.Ico 0 14) fun k => (if k ≤ 4 then takes c k else iprop(emp) : sProp 𝕄)) ⊢ bigSep (Finset.Ico 0 5) (takes c) := by
  rw [show Finset.Ico 0 14 = Finset.Ico 0 5 ∪ Finset.Ico 5 14 from by decide, bigSep_union (Φ := fun k => (if k ≤ 4 then takes c k else iprop(emp) : sProp 𝕄)) (by decide)]
  refine (show iprop(bigSep (Finset.Ico 0 5) (fun k => (if k ≤ 4 then takes c k else iprop(emp) : sProp 𝕄)) ∗ bigSep (Finset.Ico 5 14) (fun k => (if k ≤ 4 then takes c k else iprop(emp) : sProp 𝕄))) ⊢ _ from ?_)
  iintro ⟨H, -⟩
  iapply (show bigSep (Finset.Ico 0 5) (fun k => (if k ≤ 4 then takes c k else iprop(emp) : sProp 𝕄)) ⊢ bigSep (Finset.Ico 0 5) (takes (F := F) c) from Entails.of_eq (bigSep_congr fun k hk => if_pos (by have := (Finset.mem_Ico.mp hk).2; omega)))
  iexact H

omit [FloatOps F] in
/-- The launch credit of a device. -/
theorem launch_creds (c : Dev nD) :
    (Pipeline.launchCred O₀ c : sProp 𝕄) ⊢ iprop(cred (tallyAt (barC c) 0 2)
      ∗ ((bigSep (Finset.Ico 0 14) fun k => cred (tallyAt (recvC true k c) 0 N)) ∗ (bigSep (Finset.Ico 0 14) fun k => cred (tallyAt (recvC false k c) 0 N)))
      ∗ bigSep (Finset.Ico 0 5) (takes c)) := by
  rw [show O₀ = fun d => Orest d 0 + tallyAt (barC (nx true d)) 0 1 + tallyAt (barC (nx false d)) 0 1 from rfl, Pipeline.launchCred_add, Pipeline.launchCred_add]
  unfold Orest
  rw [Pipeline.launchCred_sum]
  iintro ⟨⟨H, H1⟩, H2⟩
  ihave H1 := (credit_nx (F := F) true _ 0 1 c) $$ H1
  ihave H2 := (credit_nx (F := F) false _ 0 1 c) $$ H2
  ihave H := (show (bigSep (Finset.Ico 0 14) fun k => (Pipeline.launchCred (fun d => sd d k + cr d k) c : sProp 𝕄)) ⊢ bigSep (Finset.Ico 0 14) (due c) from
    bigSep_mono fun k _ => credit_step k c) $$ H
  ihave H := (show bigSep (Finset.Ico 0 14) (due (F := F) c) ⊢ iprop(((bigSep (Finset.Ico 0 14) fun k => cred (tallyAt (recvC true k c) 0 N)) ∗ (bigSep (Finset.Ico 0 14) fun k => cred (tallyAt (recvC false k c) 0 N)))
      ∗ bigSep (Finset.Ico 0 14) fun k => (if k ≤ 4 then takes c k else iprop(emp) : sProp 𝕄)) from Entails.of_eq (by unfold due; rw [bigSep_sep', bigSep_sep'])) $$ H
  icases H with ⟨Hr, Ht⟩
  isplitl [H1 H2]
  · rw [show (tallyAt (barC c) 0 2 : Owed) = tallyAt (barC c) 0 1 + tallyAt (barC c) 0 1 from (tallyAt_add _ _ 1 1).symm]
    iapply (cred_add _ _).2
    isplitl [H1] <;> iassumption
  isplitl [Hr]; · iexact Hr
  iapply (takes_all (F := F) c); iexact Ht

omit [FloatOps F] in
/-- Everything a device's body starts from. -/
theorem tools_intro (c : Dev nD) :
    iprop(Pipeline.launchCred O₀ c ∗ (bigSep Finset.univ fun k : CI => atPos ER (kcell (c, k)) 0 ∅ 0) ∗ payT c) ⊢ (tools c : sProp 𝕄) := by
  have hp : ∀ b, iprop(sendT b c ∗ recvT b (nx b c)) ⊢ (bigSep (Finset.Ico 0 14) (pays b c) : sProp 𝕄) := fun b =>
    Entails.of_eq (by unfold sendT recvT pays; rw [bigSep_sep'])
  have hw : ∀ b, iprop((bigSep (Finset.Ico 0 14) fun k => cred (tallyAt (recvC b k c) 0 N)) ∗ sends (fun g => atPos ER g 0 ∅ 0) b c ∗ recvs (fun g => atPos ER g 0 ∅ 0) b c)
      ⊢ (bigSep (Finset.Ico 0 14) (waits b c) : sProp 𝕄) := fun b =>
    Entails.of_eq (by unfold sends recvs waits; rw [bigSep_sep', bigSep_sep'])
  have hh : iprop(credT true (pv true c) ∗ credT false (pv false c)) ⊢ (bigSep (Finset.Ico 0 5) (handing c) : sProp 𝕄) :=
    Entails.of_eq (by unfold credT handing; rw [bigSep_sep'])
  rw [all_cells fun g => atPos ER g 0 ∅ 0, own_cells fun g => atPos ER g 0 ∅ 0]
  unfold payT tools creds
  iintro ⟨Hc, ⟨Ab, Ac, ⟨⟨As1, As2⟩, Ar1, Ar2⟩, ⟨A10, A11⟩, A20, A21⟩, ⟨Tb1, Tb2⟩, Tc, ⟨⟨Ts1, Ts2⟩, Tr1, Tr2⟩, Tk1, Tk2⟩
  ihave Hc := (launch_creds (F := F) c) $$ Hc
  icases Hc with ⟨Cb, ⟨Cr1, Cr2⟩, Ct⟩
  isplitl [Ab Ac]
  · isplitl [Ab] <;> iassumption
  isplitl [Tb1 Tb2 Tc]
  · isplitl [Tc]; · iexact Tc
    isplitl [Tb1] <;> iassumption
  isplitl [Cb]; · iexact Cb
  isplitl [Ts1 Ts2 Tr1 Tr2]
  · isplitl [Ts1 Tr1]
    · iapply (hp true); isplitl [Ts1] <;> iassumption
    · iapply (hp false); isplitl [Ts2] <;> iassumption
  isplitl [Cr1 Cr2 As1 As2 Ar1 Ar2]
  · isplitl [Cr1 As1 Ar1]
    · iapply (hw true); isplitl [Cr1]; · iexact Cr1
      isplitl [As1] <;> iassumption
    · iapply (hw false); isplitl [Cr2]; · iexact Cr2
      isplitl [As2] <;> iassumption
  isplitl [Tk1 Tk2]
  · iapply hh; isplitl [Tk1] <;> iassumption
  isplitl [Ct]; · iexact Ct
  isplitl [A10 A20]
  · unfold place; isplitl [A10] <;> iassumption
  · unfold place; isplitl [A11] <;> iassumption

end Cert.KernelIdeal.AllReduce
end
-- ==== Proof.Align.lean ====
/-
The printed body is the sequence of steps.
-/
module

public import proofs.«01_k».proof.Proof.Program

@[expose] public section

noncomputable section

namespace Cert.KernelIdeal.AllReduce

open Idealize.ShloMosaic Idealize.SL.Sem Cert.KernelIdeal.Gen

variable {F : FTy → Type} [FloatOps F]

set_option maxHeartbeats 4000000 in
set_option maxRecDepth 100000 in
/-- The printed body is the entry and the steps, at the device it runs on. -/
theorem body_eq :
    cc0_body (F := F) (Memref.whole main_arg0) (Memref.isWhole_whole _) (Memref.whole cc0_stg0_0) (Memref.isWhole_whole _)
      (Memref.whole cc0_scratch0) (Memref.isWhole_whole _) (Memref.whole cc0_scratch1) (Memref.isWhole_whole _)
      cc0_scratch2 cc0_scratch3 cc0_scratch4 cc0_scratch5 cc0_scratch6 cc0_scratch7 cc0_scratch8
      = .op .deviceId (body (F := F)) := by
  rw [cc0_body_eq_skeleton]
  rfl

end Cert.KernelIdeal.AllReduce
end
-- ==== Proof.Run.lean ====
/-
The launch: the region around the body, its data, and the run of the whole program.
-/
module

public import proofs.«01_k».proof.Proof.Ghost
public import proofs.«01_k».proof.Proof.Align
public import proofs.«01_k».proof.Proof.Gen.KernelIdeal.Points
public import Idealize.ShloMosaic.Lib.Pipeline.Kit
public import Idealize.ShloMosaic.Lib.Pipeline.Value
public import Idealize.ShloMosaic.Lib.Pipeline.CollectiveSegs
public import Idealize.ShloMosaic.Lib.Pipeline.ValueKit
public import Idealize.ShloMosaic.Lib.Tactic
public import Idealize.ShloMosaic.Lib.Pipeline.Launch

@[expose] public section

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## Whole buffers -/

/-- The input's matrix is the whole argument, -/
theorem xMem_set : xMem.view.set = Finset.univ :=
  (View.set_reshape _ _).trans ((View.set_slice_whole main_arg0 _).trans
    (Rect.set_eq_univ_of_whole _ fun a => ⟨by fin_cases a <;> rfl, by fin_cases a <;> rfl, by fin_cases a <;> rfl⟩))
/-- the output the whole buffer, -/
theorem oMem_set : oMem.view.set = Finset.univ := View.set_whole _
/-- and each communication buffer whole. -/
theorem comm_set (b : Bool) : (comm b).view.set = Finset.univ := by cases b <;> exact View.set_whole _

omit [FloatOps F] in
/-- Holding the input is holding the argument's buffer, -/
theorem inp_eq (c : Dev nD) : inp m c = (((c : Thread nD τ).loc main_arg0) ↦{fullShare} m ((c : Thread nD τ).loc main_arg0) : sProp 𝕄) := by
  unfold inp; rw [xMem_set]
omit [FloatOps F] in
/-- holding the output the staging buffer, -/
theorem outp_eq (c : Dev nD) (f : Vec F S4096x2048 .f32) : (outp c f : sProp 𝕄) = (((c : Thread nD τ).loc cc0_stg0_0) ↦{fullShare} f) := by
  unfold outp; rw [oMem_set]
omit [FloatOps F] in
/-- holding the communication buffers -/
theorem comms_true (c : Dev nD) : (comms true c : sProp 𝕄) = iprop(∃ f : Buf (Elt F) ((c : Thread nD τ).loc cc0_scratch0), ((c : Thread nD τ).loc cc0_scratch0) ↦{fullShare} f) := by
  unfold comms; rw [comm_set]; rfl
omit [FloatOps F] in
/-- their two scratch buffers. -/
theorem comms_false (c : Dev nD) : (comms false c : sProp 𝕄) = iprop(∃ f : Buf (Elt F) ((c : Thread nD τ).loc cc0_scratch1), ((c : Thread nD τ).loc cc0_scratch1) ↦{fullShare} f) := by
  unfold comms; rw [comm_set]; rfl

/-! ## The region's data -/

/-- What the device's body starts from; the same with its communication buffers; what it ends with. -/
def start (c : Dev nD) : sProp 𝕄 := iprop(recs m ∗ levAts L lv ∗ tools c ∗ inp m c)
/-- What the region's body starts from, -/
def Φ₀ (c : Dev nD) : sProp 𝕄 := iprop(start m c ∗ comms true c ∗ comms false c)
/-- and what it leaves. -/
def Φ₁ (c : Dev nD) : sProp 𝕄 := iprop(inp m c ∗ comms true c ∗ comms false c ∗ shut c)

/-- The region's data: the result, what the body starts from and leaves, and what is owed at each end. -/
def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => result m
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
/-- Holding a whole buffer by its memref is holding the buffer. -/
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the region gives the body, -/
def bodyPre (c : Dev nD) : sProp 𝕄 :=
  iprop(Φ₀ m c ∗ (dats m ρ 0 c).owesAt 0 t0_0.castSucc ∗ (∃ d, stg c cc0_stg0_0 ((dats m ρ 0 c).before (0 : Fin 1) t0_0 d)))
/-- and what it takes back. -/
def bodyPost (c : Dev nD) : sProp 𝕄 :=
  iprop(Φ₁ m c ∗ (dats m ρ 0 c).owesAt 0 t0_0.succ ∗ stg c cc0_stg0_0 (result m))

/-- What is owed at the body's start, -/
theorem owes_in (c : Dev nD) : (dats m ρ 0 c).owesAt 0 t0_0.castSucc ⊢ (owing c (O₀ c) : sProp 𝕄) := by
  unfold Dat.owesAt Pipeline.owesWithin owing
  rw [show (dats m ρ 0 c).owed t0_0.castSucc = O₀ c from rfl]
  iintro ⟨%W, %hW, HO⟩
  iexists W; iexact HO
/-- and at its end. -/
theorem owes_out (c : Dev nD) : (owing c 0 : sProp 𝕄) ⊢ (dats m ρ 0 c).owesAt 0 t0_0.succ := by
  unfold Dat.owesAt Pipeline.owesWithin owing
  rw [show (dats m ρ 0 c).owed t0_0.succ = 0 from rfl]
  iintro ⟨%W, HO⟩
  iexists W
  isplitr; · ipureintro; exact fun _ _ => Or.inl trivial
  iexact HO

/-- The body from what the launch hands out to the result. -/
theorem sound_inner (c : Dev nD) (Q : sProp 𝕄) :
    iprop(Φ₀ m c ∗ owing c (O₀ c) ∗ (∃ f, outp c f) ∗ ((Φ₁ m c ∗ owing c 0 ∗ outp c (result m)) -∗ Q)) ⊢ WP c (body c) (fun _ => Q) := by
  unfold Φ₀ start
  iintro ⟨⟨⟨Hrecs, Hlev, Ht, Hin⟩, Hc1, Hc2⟩, HO, Hout, Hk⟩
  iapply (show iprop(recs m ∗ levAts L lv ∗ tools c ∗ inp m c ∗ (∃ f, outp c f) ∗ comms true c ∗ comms false c ∗ owing c (O₀ c)
      ∗ ((owing c 0 ∗ inp m c ∗ outp c (result m) ∗ comms true c ∗ comms false c ∗ shut c) -∗ Q)) ⊢ WP c (body c) (fun _ => Q) from wp_body (Q := fun _ => Q) m c)
  isplitl [Hrecs]; · iexact Hrecs
  isplitl [Hlev]; · iexact Hlev
  isplitl [Ht]; · iexact Ht
  isplitl [Hin]; · iexact Hin
  isplitl [Hout]; · iexact Hout
  isplitl [Hc1]; · iexact Hc1
  isplitl [Hc2]; · iexact Hc2
  isplitl [HO]; · iexact HO
  iintro ⟨HO, Hin, Hout, Hc1, Hc2, Hs⟩
  iapply Hk
  unfold Φ₁
  isplitl [Hin Hc1 Hc2 Hs]
  · isplitl [Hin]; · iexact Hin
    isplitl [Hc1]; · iexact Hc1
    isplitl [Hc2] <;> iassumption
  isplitl [HO] <;> iassumption

/-- The staging buffer as the output, -/
theorem stg_in (c : Dev nD) (X : Vec F S4096x2048 .f32) : (stg c cc0_stg0_0 X : sProp 𝕄) ⊢ iprop(∃ f, outp c f) := by
  iintro ⟨%f, -, H⟩
  iexists f; rw [outp_eq]; iexact H
/-- and back. -/
theorem stg_out (c : Dev nD) (X : Vec F S4096x2048 .f32) : (outp c X : sProp 𝕄) ⊢ stg c cc0_stg0_0 X := by
  rw [outp_eq]
  iintro H
  iexists X
  isplitr; · (ipureintro; rfl)
  iexact H

/-- A program that asks for its device is the program at that device. -/
theorem at_device (c : Dev nD) (k : Dev nD → Pr F) (Q : sProp 𝕄) : WP c (k c) (fun _ => Q) ⊢ WP c (.op .deviceId k) (fun _ => Q) :=
  Entails.of_eq (wp_deviceId 𝒱₀ (c : Thread nD τ) none Set.univ).symm

/-- The printed body meets the region's demand, -/
theorem sound_body (c : Dev nD) : bodyPre m ρ c ⊢ wp frame (wpE (defs₀ (F := F)) 𝒱₀ (c : Thread nD τ) none) Set.univ
    (cc0_body (F := F) (Memref.whole main_arg0) (Memref.isWhole_whole _) (Memref.whole cc0_stg0_0) (Memref.isWhole_whole _)
      (Memref.whole cc0_scratch0) (Memref.isWhole_whole _) (Memref.whole cc0_scratch1) (Memref.isWhole_whole _)
      cc0_scratch2 cc0_scratch3 cc0_scratch4 cc0_scratch5 cc0_scratch6 cc0_scratch7 cc0_scratch8) (fun _ => bodyPost m ρ c) := by
  rw [body_eq]
  refine BIBase.Entails.trans ?_ (at_device c body (bodyPost m ρ c))
  refine BIBase.Entails.trans ?_ (sound_inner m c (bodyPost m ρ c))
  unfold bodyPre bodyPost
  iintro ⟨H0, HO, ⟨%d, Hout⟩⟩
  ihave Hout := (stg_in (F := F) c _) $$ Hout
  ihave HO := (owes_in m ρ c) $$ HO
  isplitl [H0]; · iexact H0
  isplitl [HO]; · iexact HO
  isplitl [Hout]; · iexact Hout
  iintro ⟨H1, HO, Hout⟩
  isplitl [H1]; · iexact H1
  isplitl [HO]
  · iapply (owes_out m ρ c); iexact HO
  · iapply (stg_out (F := F) c (result m)); iexact Hout

set_option maxRecDepth 100000 in
/-- in the form that the region asks for. -/
theorem body_obligation (c : Dev nD) : BodyObligation (dats (F := F) m ρ 0 c) (defs₀ (F := F)) 𝒱₀ 0 Set.univ := fun t => by
  rw [show t = t0_0 from fin_N0 t]
  rw [show ∀ Φ : Fin cfg0.W → sProp 𝕄, bigSep Finset.univ Φ = iprop(Φ (0 : Fin 1)) from bigSep_W0, show ∀ Φ : Fin cfg0.W → sProp 𝕄, bigSep Finset.univ Φ = iprop(Φ (0 : Fin 1)) from bigSep_W0]
  simp only [owns_whole_eq]
  exact sound_body m ρ c

/-! ## The launch's conditions -/

/-- The result's window is held whole. -/
theorem share_eq (c : Dev nD) (w : Fin cfg0.W) : (dats m ρ 0 c).share w = fullShare := by unfold Dat.share; split <;> rfl

/-- A device's part of the launch is what the body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G' start
  rw [inp_eq]
  iintro ⟨Hin, Hlev, Hcr, -, Hrecs, Hat, Htok⟩
  imodintro
  isplitl
  · isplitl [Hrecs]; · iexact Hrecs
    isplitl [Hlev]; · iexact Hlev
    isplitl [Hcr Hat Htok]
    · iapply (tools_intro (F := F) c)
      isplitl [Hcr]; · iexact Hcr
      isplitl [Hat] <;> iassumption
    iexact Hin
  · iempintro

/-- The same with the two communication buffers. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  rw [comms_true, comms_false]
  iintro ⟨Hs, -, H1, H2⟩
  isplitl [Hs]; · iexact Hs
  isplitl [H1] <;> iassumption

/-- What a device is read from at the end. -/
def left (c : Dev nD) : sProp 𝕄 := iprop(unscopedSems0 c ∗ inp m c)

/-- What the body leaves gives back the argument and closed cells. -/
theorem phi1_exit (c : Dev nD) :
    (dats m ρ 0 c).Φ (Fin.last cfg0.N) ⊢ iprop(left m c ∗ Pipeline.ownSems0 osem c ∗ Pipeline.scopedRest cfg0.spec c) := by
  rw [show (dats m ρ 0 c).Φ (Fin.last cfg0.N) = Φ₁ m c from rfl, scopedRest0_eq]
  unfold Φ₁ left
  rw [show (shut c : sProp 𝕄) = _ from sems_eq (F := F) c, comms_true, comms_false]
  iintro ⟨Hin, H1, H2, Hu, Ho⟩
  isplitl [Hin Hu]
  · isplitl [Hu] <;> iassumption
  isplitl [Ho]; · iexact Ho
  isplitl [H1] <;> iassumption

/-- The staging's cells lie lowest, -/
theorem lv_stage (c : Dev nD) (w : Fin cfg0.W) (s : Fin (cfg0.spec w).nbuf) : lv ((c : Thread nD τ), .dma ((cfg0.spec w).sem s)) 0 = 0 := by
  fin_cases w; fin_cases s; rfl

/-- so a wait on one is allowed whatever is owed. -/
theorem mayWait_stage (c : Dev nD) (q : DmaSem sig) (hq : lv ((c : Thread nD τ), .dma q) 0 = 0) (O : Owed) (hO : O = O₀ c ∨ O = 0) :
    (levAts L lv : sProp 𝕄) ⊢ MayWait (c : Thread nD τ) (.dma q) 0 O := by
  refine mayWait (n := 1) (by decide) (by rw [hq]; decide) ?_
  rcases hO with rfl | rfl
  · exact low_O₀ c
  · exact Low.zero 1

/-- Every wait of the staging is allowed. -/
theorem waits_intro (c : Dev nD) : (levAts L lv : sProp 𝕄) ⊢ Pipeline.cellsWaits cfgs (dats m ρ) 0 0 c :=
  Pipeline.cellsWaits_intro cfgs (dats m ρ) 0 0 c fun w s t =>
    mayWait_stage c _ (lv_stage c w s) _ (by
      rcases t with ⟨_ | _, ht⟩
      · exact Or.inl rfl
      · exact Or.inr rfl)

/-! ## The run -/

/-- After the region the result's array is the result. -/
theorem result_final (c : Dev nD) : (dats m ρ 0 c).arrAt (0 : Fin 1) cfg0.N = result m := by
  refine (dats m ρ 0 c).arrAt_eq_of_after_last (0 : Fin 1) t0_0 (by decide +kernel) _ fun j => ?_
  blk_simp
  rfl

/-- A device's counters outside every region are at zero, and its argument is unchanged. -/
def seen (c : Dev nD) (s : MemSt nD τ sig (Elt F)) : Prop :=
  (∀ sm : SemLoc sig, sm.isScoped .tc = false → s.sem ((c.tc : Thread nD τ), sm) = 0) ∧ s.mem ((c : Thread nD τ).loc main_arg0) = m ((c : Thread nD τ).loc main_arg0)

/-- What a device is left with says what its argument holds. -/
theorem left_read (c : Dev nD) (s' : Phys nD τ sig (Elt F)) :
    iprop(left m c ∗ emp ∗ SI s') ⊢ |={Set.univ}=> iprop(⌜seen m c s'.mem⌝ ∗ SI s' : sProp 𝕄) := by
  unfold left
  rw [inp_eq]
  iintro ⟨⟨Hu, Hin⟩, -, HSI⟩
  imod (Pipeline.unscopedSems0_read (X := unscopedSems0 c) (c := c) fupd_intro s') $$ [Hu HSI] with ⟨%hs, HSI⟩
  · isplitl [Hu] <;> iassumption
  imodintro
  ihave H := (pointsTo_read_all ({()} : Finset Unit) (fun _ => (c : Thread nD τ).loc main_arg0) (fun _ => m ((c : Thread nD τ).loc main_arg0)) s' fullShare) $$ [Hin HSI]
  · isplitl [Hin]
    · rw [bigSep_singleton]; iexact Hin
    · iexact HSI
  icases H with ⟨%hm, HSI⟩
  isplitr
  · ipureintro; exact ⟨hs, hm () (Finset.mem_singleton_self _)⟩
  · iexact HSI

set_option maxRecDepth 100000 in
/-- From any memory with every counter at zero, every fair run of the program on eight devices ends; at the end each device's result holds `result`,
    its argument is unchanged, and every counter is at zero. -/
theorem run_main : θ_run defs (onTc (τ := τ) (main (F := F))) (s₀ m ρ) (fun r =>
    (∀ c : Dev nD, r.2.mem ((c : Thread nD τ).loc main_v1) = result m ∧ r.2.mem ((c : Thread nD τ).loc main_arg0) = m ((c : Thread nD τ).loc main_arg0))
      ∧ r.2.sem = fun _ => 0) :=
  Pipeline.θ_run_region_owing_glob_pf (fun p => (cfgs p).toPCfg) (fun p => (cfgs p).toPCfg_adm) (dats m ρ) (0 : ℕ) cellOf_inj (0 : Fin 1)
    winFacts0.to₀ osem_facts (Pipeline.PreFacts.none _) EP defs₀ 𝒱₀ m ρ main
    (hmain := fun _ => rfl)
    (hbody := body_obligation m ρ) (hne := fun w => by fin_cases w; exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits_intro m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := left m) (Z := fun _ => iprop(emp))
    (hX := start_intro m ρ) (hin := phi0_intro m ρ) (hout := phi1_exit m ρ)
    (QY := seen m) (hY := left_read m)
    (hQ := fun _ h hs => ⟨fun c => ⟨((h c).1 (0 : Fin 1)).trans (result_final m ρ c), (h c).2.2.2⟩, sem_eq_zero hs fun c => (h c).2.2.1⟩)

end Cert.KernelIdeal.AllReduce
end
-- ==== Proof.Values.lean ====
/-
What the run computes over the extended reals: every device's result is, at each index, the sum of the eight devices'
inputs there, and that is what the reference computes of the whole array.
-/
module

public import proofs.«01_k».proof.Proof.Buffers
public import proofs.«01_k».proof.Proof.Gen.ReferenceIdeal.Run
public import Idealize.ShloMosaic.Lib.Pointwise
public import Idealize.ShloMosaic.Lib.ValueLayout
public import Idealize.ShloMosaic.Lib.VecWindow
public import Idealize.ShloMosaic.Lib.Layout

@[expose] public section

noncomputable section

namespace Cert.KernelIdeal.AllReduce

open Cert.KernelIdeal Cert.KernelIdeal.Gen
open Idealize.ShloMosaic
open Idealize.ShloMosaic.TcCoe
open scoped BigOperators

variable (m : (ℓ : Loc nD τ sig) → Buf (Elt Ideal) ℓ)

/-- A device's input at an index, as an extended real. -/
def inAt (c : Dev nD) (i : S4096x2048.Idx) : EReal := xin m c i

/-- The block sent at one step is the block the sender's predecessor sent at the step before. -/
theorem bk_succ (b : Bool) (k : ℕ) (c : Dev nD) : bk b (k + 1) c = bk b k (pv b c) := by
  have h := bk_nx b k (pv b c)
  rwa [nx_pv] at h

/-- What a device sends at step `k` of the first half is the sum, on the block of that step, of its input and the
    inputs of the `k` devices before it. -/
theorem V_sum (b : Bool) (k : ℕ) (hk : k ≤ 7) (c : Dev nD) (x : S256x2048.Idx) :
    (V m b k c x : EReal) = ∑ j ∈ Finset.range (k + 1), inAt m ((pv b)^[j] c) (atChunk b (bk b k c) x) := by
  induction k generalizing c with
  | zero =>
    rw [Finset.sum_range_one]
    show (xch m b (bk b 0 c) c x : EReal) = inAt m c (atChunk b (bk b 0 c) x)
    unfold xch inAt; rw [read_chunk]
  | succ k ih =>
    have hV : V m b (k + 1) c = addf (xch m b (bk b (k + 1) c) c) (V m b k (pv b c)) := by
      rw [V, if_pos (by omega)]
    rw [hV, Finset.sum_range_succ']
    have e : (addf (xch m b (bk b (k + 1) c) c) (V m b k (pv b c)) x : EReal)
        = (xch m b (bk b (k + 1) c) c x : EReal) + (V m b k (pv b c) x : EReal) := rfl
    rw [e, ih (by omega) (pv b c), add_comm, ← bk_succ]
    have e0 : (xch m b (bk b (k + 1) c) c x : EReal) = inAt m ((pv b)^[0] c) (atChunk b (bk b (k + 1) c) x) := by
      unfold xch inAt; rw [read_chunk]; rfl
    rw [e0]
    rfl

/-- Eight steps back along the ring meet every device once. -/
theorem back_inj (b : Bool) (c : Dev nD) : Function.Injective fun j : Fin 8 => (pv b)^[j.val] c := by
  revert b c; decide
/-- So a sum over them is a sum over the devices. -/
theorem sum_back (b : Bool) (c : Dev nD) (g : Dev nD → EReal) :
    ∑ j ∈ Finset.range 8, g ((pv b)^[j] c) = ∑ d : Dev nD, g d := by
  rw [Finset.sum_range]
  exact Fintype.sum_bijective (fun j : Fin 8 => (pv b)^[j.val] c) (Finite.injective_iff_bijective.mp (back_inj b c)) _ _ fun _ => rfl

/-- The block a device's predecessor finishes is the device's own. -/
theorem bk_last (b : Bool) (q : Fin 8) : bk b 7 (pv b q) = q := by revert b q; decide

/-- The result at an index: the sum of the devices' inputs there. -/
theorem result_sum (i : S4096x2048.Idx) : (result m i : EReal) = ∑ d : Dev nD, inAt m d i := by
  unfold result
  rw [V_sum m _ 7 (le_refl 7), sum_back _ _ fun d => inAt m d _, bk_last, at_placeOf]

/-- A device's input at an index is its argument there, under the leading coordinate zero. -/
theorem inAt_eq (c : Dev nD) (i : S4096x2048.Idx) :
    inAt m c i = (m ((c : Thread nD τ).loc main_arg0) (ix3 (n0 := 1) (n1 := 4096) (n2 := 2048) 0 (i 0) (i 1)) : EReal) := by
  refine (congrFun (Memref.read_squeeze_full (Val := Elt Ideal) (Memref.whole main_arg0 : Memref sig .tc .hbm S1x4096x2048 .f32)
    inb_S1x4096x2048_S1x4096x2048_0_0_0 squeezes_S1x4096x2048_S4096x2048 (m ((c : Thread nD τ).loc main_arg0))) i).trans ?_
  refine congrArg (m ((c : Thread nD τ).loc main_arg0)) ?_
  refine Eq.trans ?_ (ValueIdx.reshapeEquiv_ix2_1ab (a := 4096) (b := 2048) squeezes_S1x4096x2048_S4096x2048.numel_eq (i 0) (i 1))
  exact congrArg (Shape.reshapeEquiv squeezes_S1x4096x2048_S4096x2048.numel_eq) (ix2_eta i).symm

/-- The reference's value at an index: the sum of the array along its leading axis. -/
theorem ref_sum (v : FVec Ideal Cert.ReferenceIdeal.S8x4096x2048 .f32) (i : S4096x2048.Idx) :
    (Host.reduceAdd v (constant Cert.ReferenceIdeal.S_ .f32 0x00000000#32) Cert.ReferenceIdeal.Gen.reducesTo_S8x4096x2048_S4096x2048_d0 Cert.ReferenceIdeal.Gen.h_S_ i : EReal)
      = ∑ d : Fin 8, (v (ix3 (n0 := 8) (n1 := 4096) (n2 := 2048) d (i 0) (i 1)) : EReal) := by
  rw [Host.reduceAdd_apply, Ideal.hostReduceAdd_def, Ideal.hostReduceAdd_r3_a0]
  have z : (constant (F := Ideal) Cert.ReferenceIdeal.S_ .f32 0x00000000#32 (Shape.Idx.first Cert.ReferenceIdeal.Gen.h_S_) : EReal) = 0 :=
    Ideal.ofBits_zero .f32
  rw [z, zero_add]
  rfl

/-- When the devices hold the blocks of one array, their result is the reference's of that array. -/
theorem result_eq (v : FVec Ideal Cert.ReferenceIdeal.S8x4096x2048 .f32)
    (h : ∀ c : Dev nD, m ((c : Thread nD τ).loc main_arg0) = Layout.block ⟨3, ![1, 4096, 2048]⟩ ⟨3, ![8, 4096, 2048]⟩ 0 8 c v) :
    result m = Host.reduceAdd v (constant Cert.ReferenceIdeal.S_ .f32 0x00000000#32) Cert.ReferenceIdeal.Gen.reducesTo_S8x4096x2048_S4096x2048_d0 Cert.ReferenceIdeal.Gen.h_S_ := by
  funext i
  refine (result_sum m i).trans (Eq.trans ?_ (ref_sum v i).symm)
  refine Finset.sum_congr rfl fun d _ => ?_
  rw [inAt_eq, h d, Layout.block_apply]
  refine congrArg v (funext fun a => Fin.ext ?_)
  rw [Layout.Tiles.idx_val]
  fin_cases a
  · show d.val * 1 + 0 = d.val
    omega
  · rfl
  · rfl

end Cert.KernelIdeal.AllReduce

end
-- ==== Proof.lean ====
/-
The five claims: the kernel, its reading over the extended reals and the reference each run to the end, leave their
arguments unchanged and every counter at zero; the reading over the extended reals is the kernel's own text; and it
computes what the reference computes.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Values
public import Idealize.ShloMosaic.Lib.Quiescent
public import Idealize.ShloMosaic.Lib.Tactic

@[expose] public section

noncomputable section

namespace Cert.Proof

open Idealize.ShloMosaic Idealize.SL.Sem

/-- What the first claim says, over the text that is read over the extended reals, with floats as words. -/
def QuietAsWords : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

/-- The kernel's text and the one read over the extended reals are the same. -/
theorem quiet_same : Cert.quiescent_Kernel = QuietAsWords := by sl_kernel_rfl

/-- The kernel with floats as words: it ends, its argument unchanged, every counter at zero. -/
theorem frame_kernel : Cert.quiescent_Kernel := by
  rw [quiet_same]
  exact fun m g _ =>
    (θ_run Cert.KernelIdeal.defs _ _).mono (fun _ h => ⟨fun c => (h.1 c).2, h.2⟩) (Cert.KernelIdeal.AllReduce.run_main (F := Bits) m g)

/-- The same over the extended reals. -/
theorem frame_ideal : Cert.quiescent_KernelIdeal := fun m g _ =>
  (θ_run Cert.KernelIdeal.defs _ _).mono (fun _ h => ⟨fun c => (h.1 c).2, h.2⟩) (Cert.KernelIdeal.AllReduce.run_main (F := Ideal) m g)

/-- The reference over the extended reals: it ends, its argument unchanged; it has no counter. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Over the extended reals, from blocks of one array, every device ends with what the reference computes of the whole. -/
theorem value : Cert.algebraic_KernelIdeal_ReferenceIdeal := fun m g m' g' _ h =>
  ⟨_, (θ_run Cert.KernelIdeal.defs _ _).mono
      (fun _ hr c => ⟨(hr.1 c).1.trans (Cert.KernelIdeal.AllReduce.result_eq m _ h), (hr.1 c).2⟩)
      (Cert.KernelIdeal.AllReduce.run_main (F := Ideal) m g),
    (θ_run Cert.ReferenceIdeal.defs _ _).mono (fun _ hr => hr 0) (Cert.ReferenceIdeal.Value.run (F := Ideal) m' g')⟩

/-- All five claims. -/
theorem claim : Cert.Claim :=
  ⟨Cert.Kernel.Gen.facts, Cert.KernelIdeal.Gen.facts, Cert.ReferenceIdeal.Gen.facts, frame_kernel, frame_ideal, frame_reference, trivial, value⟩

end Cert.Proof

end
